-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def Pre_Entered (m : (ℓ : Loc Cert.Entered.nD Cert.Entered.τ Cert.Entered.sig) → Buf (Elt Bits) ℓ) : Prop :=
  True

def Pre_EnteredIdeal (m : (ℓ : Loc Cert.EnteredIdeal.nD Cert.EnteredIdeal.τ Cert.EnteredIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def quiescent_Entered [hEntered : Cert.Entered.Facts] : Prop :=
  ∀ (m : (ℓ : Loc Cert.Entered.nD Cert.Entered.τ Cert.Entered.sig) → Buf (Elt Bits) ℓ) (g : Dev Cert.Entered.nD → PrngReg), Pre_Entered m →
    θ_run (Cert.Entered.defs (F := Bits)) (onTc (τ := Cert.Entered.τ) (Cert.Entered.main (F := Bits))) ⟨m, fun _ => 0, g⟩ (fun r => (∀ c : Dev Cert.Entered.nD,
      r.2.mem ((c.tc : Thread Cert.Entered.nD Cert.Entered.τ).loc Cert.Entered.main_arg0) = m ((c.tc : Thread Cert.Entered.nD Cert.Entered.τ).loc Cert.Entered.main_arg0)
      ∧ r.2.mem ((c.tc : Thread Cert.Entered.nD Cert.Entered.τ).loc Cert.Entered.main_arg1) = m ((c.tc : Thread Cert.Entered.nD Cert.Entered.τ).loc Cert.Entered.main_arg1))
      ∧ r.2.sem = fun _ => 0)

def quiescent_EnteredIdeal [hEnteredIdeal : Cert.EnteredIdeal.Facts] : Prop :=
  ∀ (m : (ℓ : Loc Cert.EnteredIdeal.nD Cert.EnteredIdeal.τ Cert.EnteredIdeal.sig) → Buf (Elt Ideal) ℓ) (g : Dev Cert.EnteredIdeal.nD → PrngReg), Pre_EnteredIdeal m →
    θ_run (Cert.EnteredIdeal.defs (F := Ideal)) (onTc (τ := Cert.EnteredIdeal.τ) (Cert.EnteredIdeal.main (F := Ideal))) ⟨m, fun _ => 0, g⟩ (fun r => (∀ c : Dev Cert.EnteredIdeal.nD,
      r.2.mem ((c.tc : Thread Cert.EnteredIdeal.nD Cert.EnteredIdeal.τ).loc Cert.EnteredIdeal.main_arg0) = m ((c.tc : Thread Cert.EnteredIdeal.nD Cert.EnteredIdeal.τ).loc Cert.EnteredIdeal.main_arg0)
      ∧ r.2.mem ((c.tc : Thread Cert.EnteredIdeal.nD Cert.EnteredIdeal.τ).loc Cert.EnteredIdeal.main_arg1) = m ((c.tc : Thread Cert.EnteredIdeal.nD Cert.EnteredIdeal.τ).loc Cert.EnteredIdeal.main_arg1))
      ∧ r.2.sem = fun _ => 0)

def preserves_Kernel_KernelIdeal : Prop :=
  True

def preserves_Entered_EnteredIdeal : Prop :=
  True

def algebraic_EnteredIdeal_UnclippedIdeal [hEnteredIdeal : Cert.EnteredIdeal.Facts] [hUnclippedIdeal : Cert.UnclippedIdeal.Facts] : Prop :=
  ∀ (m : (ℓ : Loc Cert.EnteredIdeal.nD Cert.EnteredIdeal.τ Cert.EnteredIdeal.sig) → Buf (Elt Ideal) ℓ) (g : Dev Cert.EnteredIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_EnteredIdeal m →
    (∀ c : Dev Cert.EnteredIdeal.nD,
      m ((c.tc : Thread Cert.EnteredIdeal.nD Cert.EnteredIdeal.τ).loc Cert.EnteredIdeal.main_arg0) = Layout.block ⟨2, ![2048, 64]⟩ ⟨2, ![2048, 2048]⟩ 1 32 c (m' (((0 : Dev Cert.UnclippedIdeal.nD).tc : Thread Cert.UnclippedIdeal.nD Cert.UnclippedIdeal.τ).loc Cert.UnclippedIdeal.main_arg0))
      ∧ m ((c.tc : Thread Cert.EnteredIdeal.nD Cert.EnteredIdeal.τ).loc Cert.EnteredIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.EnteredIdeal.defs (F := Ideal)) (onTc (τ := Cert.EnteredIdeal.τ) (Cert.EnteredIdeal.main (F := Ideal))) ⟨m, fun _ => 0, g⟩ (fun r => ∀ c : Dev Cert.EnteredIdeal.nD,
          r.2.mem ((c.tc : Thread Cert.EnteredIdeal.nD Cert.EnteredIdeal.τ).loc Cert.EnteredIdeal.main_v1) = Layout.block ⟨2, ![64, 2048]⟩ ⟨2, ![2048, 2048]⟩ 0 32 c v0
          ∧ r.2.mem ((c.tc : Thread Cert.EnteredIdeal.nD Cert.EnteredIdeal.τ).loc Cert.EnteredIdeal.main_arg0) = m ((c.tc : Thread Cert.EnteredIdeal.nD Cert.EnteredIdeal.τ).loc Cert.EnteredIdeal.main_arg0)
          ∧ r.2.mem ((c.tc : Thread Cert.EnteredIdeal.nD Cert.EnteredIdeal.τ).loc Cert.EnteredIdeal.main_arg1) = m ((c.tc : Thread Cert.EnteredIdeal.nD Cert.EnteredIdeal.τ).loc Cert.EnteredIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_EnteredIdeal_ReferenceIdeal_on_within_clip [hEnteredIdeal : Cert.EnteredIdeal.Facts] [hReferenceIdeal : Cert.ReferenceIdeal.Facts] [hOn_within_clip : Cert.On_within_clip.Facts] : Prop :=
  ∀ (m : (ℓ : Loc Cert.EnteredIdeal.nD Cert.EnteredIdeal.τ Cert.EnteredIdeal.sig) → Buf (Elt Ideal) ℓ) (g : Dev Cert.EnteredIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_EnteredIdeal m →
    (∀ c : Dev Cert.EnteredIdeal.nD,
      m ((c.tc : Thread Cert.EnteredIdeal.nD Cert.EnteredIdeal.τ).loc Cert.EnteredIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.EnteredIdeal.nD Cert.EnteredIdeal.τ).loc Cert.EnteredIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.EnteredIdeal.defs (F := Ideal)) (onTc (τ := Cert.EnteredIdeal.τ) (Cert.EnteredIdeal.main (F := Ideal))) ⟨m, fun _ => 0, g⟩ (fun r => ∀ c : Dev Cert.EnteredIdeal.nD,
          (∀ i : (⟨2, ![64, 2048]⟩ : Shape).Idx, (Layout.block ⟨2, ![64, 2048]⟩ ⟨2, ![2048, 2048]⟩ 0 32 c ((Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![64, 2048]⟩ : Shape).Idx → _) i = 1#1 → r.2.mem ((c.tc : Thread Cert.EnteredIdeal.nD Cert.EnteredIdeal.τ).loc Cert.EnteredIdeal.main_v1) i = (Layout.block ⟨2, ![64, 2048]⟩ ⟨2, ![2048, 2048]⟩ 0 32 c v0 : (⟨2, ![64, 2048]⟩ : Shape).Idx → _) i)
          ∧ r.2.mem ((c.tc : Thread Cert.EnteredIdeal.nD Cert.EnteredIdeal.τ).loc Cert.EnteredIdeal.main_arg0) = m ((c.tc : Thread Cert.EnteredIdeal.nD Cert.EnteredIdeal.τ).loc Cert.EnteredIdeal.main_arg0)
          ∧ r.2.mem ((c.tc : Thread Cert.EnteredIdeal.nD Cert.EnteredIdeal.τ).loc Cert.EnteredIdeal.main_arg1) = m ((c.tc : Thread Cert.EnteredIdeal.nD Cert.EnteredIdeal.τ).loc Cert.EnteredIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hEntered : Cert.Entered.Facts) (hEnteredIdeal : Cert.EnteredIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ quiescent_Entered (hEntered := hEntered)
    ∧ quiescent_EnteredIdeal (hEnteredIdeal := hEnteredIdeal)
    ∧ preserves_Kernel_KernelIdeal
    ∧ preserves_Entered_EnteredIdeal
    ∧ algebraic_EnteredIdeal_UnclippedIdeal (hEnteredIdeal := hEnteredIdeal) (hUnclippedIdeal := hUnclippedIdeal)
    ∧ algebraic_EnteredIdeal_ReferenceIdeal_on_within_clip (hEnteredIdeal := hEnteredIdeal) (hReferenceIdeal := hReferenceIdeal) (hOn_within_clip := hOn_within_clip)
-- ==== On_within_clip.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S2048x64 : Shape := ⟨2, ![2048, 64]⟩
abbrev S2048x2048 : Shape := ⟨2, ![2048, 2048]⟩
abbrev S64x2048 : Shape := ⟨2, ![64, 2048]⟩
abbrev S32x64x64 : Shape := ⟨3, ![32, 64, 64]⟩
abbrev S32 : Shape := ⟨1, ![32]⟩
abbrev S1 : Shape := ⟨1, ![1]⟩
abbrev S_ : Shape := ⟨0, ![]⟩
abbrev S1x64x64 : Shape := ⟨3, ![1, 64, 64]⟩
abbrev S64x64 : Shape := ⟨2, ![64, 64]⟩

abbrev nBuf : Space → Nat
  | .hbm => 3
  | .vmem => 5
  | .smem => 0
  | _ => 0

abbrev bufTy : (tb : Table) → Fin (tcTables nBuf tb) → BufTy
  | .hbm, ⟨0, _⟩ => ⟨S2048x64, .bf16⟩
  | .hbm, ⟨1, _⟩ => ⟨S2048x2048, .bf16⟩
  | .hbm, ⟨2, _⟩ => ⟨S64x2048, .f32⟩
  | .local _ .vmem, ⟨0, _⟩ => ⟨S2048x64, .bf16⟩
  | .local _ .vmem, ⟨1, _⟩ => ⟨S2048x2048, .bf16⟩
  | .local _ .vmem, ⟨2, _⟩ => ⟨S64x2048, .f32⟩
  | .local _ .vmem, ⟨3, _⟩ => ⟨S2048x64, .bf16⟩
  | .local _ .vmem, ⟨4, _⟩ => ⟨S32x64x64, .bf16⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let c0_i32_3 : BitVec 32 := 0#32
  ![v2.toNat, 0, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v8 : BitVec 32 := Scalar.muli v2 c64_i32
  let c0_i32_4 : BitVec 32 := 0#32
  ![v8.toNat, 0]
def k0_off4 (d0 : Dev nD) (c1_i32_5 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v14 : BitVec 32 := Scalar.addi v2 c1_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c64_i32_12 : BitVec 32 := 64#32
  let v25 : BitVec 32 := Scalar.muli v24 c64_i32_12
  let c0_i32_18 : BitVec 32 := 0#32
  ![v25.toNat, 0]
def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v14 : BitVec 32 := Scalar.addi v2 c1_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v35 : BitVec 32 := Scalar.addi v2 c2_i32
  let c32_i32_19 : BitVec 32 := 32#32
  let c0_i32_20 : BitVec 32 := 0#32
  let v36 : BitVec 1 := Scalar.cmpi .eq c32_i32_19 c0_i32_20
  let c1_i32_21 : BitVec 32 := 1#32
  let v37 : BitVec 32 := Scalar.select v36 c1_i32_21 c32_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_27 : BitVec 32 := 1#32
  let v47 : BitVec 32 := Scalar.muli v45 c1_i32_27
  let v48 : BitVec 32 := Scalar.addi c0_i32_28 v47
  v48.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v56 : BitVec 32 := Scalar.addi v2 c3_i32
  let c32_i32_32 : BitVec 32 := 32#32
  let c0_i32_33 : BitVec 32 := 0#32
  let v57 : BitVec 1 := Scalar.cmpi .eq c32_i32_32 c0_i32_33
  let c1_i32_34 : BitVec 32 := 1#32
  let v58 : BitVec 32 := Scalar.select v57 c1_i32_34 c32_i32_32
  let v59 : BitVec 32 := Scalar.remsi v56 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c1_i32_40 : BitVec 32 := 1#32
  let v68 : BitVec 32 := Scalar.muli v66 c1_i32_40
  let v69 : BitVec 32 := Scalar.addi c0_i32_41 v68
  v69.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v77 : BitVec 32 := Scalar.addi v2 c4_i32
  let c32_i32_45 : BitVec 32 := 32#32
  let c0_i32_46 : BitVec 32 := 0#32
  let v78 : BitVec 1 := Scalar.cmpi .eq c32_i32_45 c0_i32_46
  let c1_i32_47 : BitVec 32 := 1#32
  let v79 : BitVec 32 := Scalar.select v78 c1_i32_47 c32_i32_45
  let v80 : BitVec 32 := Scalar.remsi v77 v79
  let c0_i32_49 : BitVec 32 := 0#32
  let v82 : BitVec 1 := Scalar.cmpi .slt v80 c0_i32_49
  let c0_i32_50 : BitVec 32 := 0#32
  let v83 : BitVec 1 := Scalar.cmpi .slt v79 c0_i32_50
  let v84 : BitVec 1 := Scalar.xori v82 v83
  let c0_i32_48 : BitVec 32 := 0#32
  let v81 : BitVec 1 := Scalar.cmpi .ne v80 c0_i32_48
  let v85 : BitVec 1 := Scalar.andi v84 v81
  let v86 : BitVec 32 := Scalar.addi v80 v79
  let v87 : BitVec 32 := Scalar.select v85 v86 v80
  let c1_i32_53 : BitVec 32 := 1#32
  let v89 : BitVec 32 := Scalar.muli v87 c1_i32_53
  let v90 : BitVec 32 := Scalar.addi c0_i32_54 v89
  v90.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v98 : BitVec 32 := Scalar.addi v2 c5_i32
  let c32_i32_58 : BitVec 32 := 32#32
  let c0_i32_59 : BitVec 32 := 0#32
  let v99 : BitVec 1 := Scalar.cmpi .eq c32_i32_58 c0_i32_59
  let c1_i32_60 : BitVec 32 := 1#32
  let v100 : BitVec 32 := Scalar.select v99 c1_i32_60 c32_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c1_i32_66 : BitVec 32 := 1#32
  let v110 : BitVec 32 := Scalar.muli v108 c1_i32_66
  let v111 : BitVec 32 := Scalar.addi c0_i32_67 v110
  v111.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v119 : BitVec 32 := Scalar.addi v2 c6_i32
  let c32_i32_71 : BitVec 32 := 32#32
  let c0_i32_72 : BitVec 32 := 0#32
  let v120 : BitVec 1 := Scalar.cmpi .eq c32_i32_71 c0_i32_72
  let c1_i32_73 : BitVec 32 := 1#32
  let v121 : BitVec 32 := Scalar.select v120 c1_i32_73 c32_i32_71
  let v122 : BitVec 32 := Scalar.remsi v119 v121
  let c0_i32_75 : BitVec 32 := 0#32
  let v124 : BitVec 1 := Scalar.cmpi .slt v122 c0_i32_75
  let c0_i32_76 : BitVec 32 := 0#32
  let v125 : BitVec 1 := Scalar.cmpi .slt v121 c0_i32_76
  let v126 : BitVec 1 := Scalar.xori v124 v125
  let c0_i32_74 : BitVec 32 := 0#32
  let v123 : BitVec 1 := Scalar.cmpi .ne v122 c0_i32_74
  let v127 : BitVec 1 := Scalar.andi v126 v123
  let v128 : BitVec 32 := Scalar.addi v122 v121
  let v129 : BitVec 32 := Scalar.select v127 v128 v122
  let c1_i32_79 : BitVec 32 := 1#32
  let v131 : BitVec 32 := Scalar.muli v129 c1_i32_79
  let v132 : BitVec 32 := Scalar.addi c0_i32_80 v131
  v132.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v140 : BitVec 32 := Scalar.addi v2 c7_i32
  let c32_i32_84 : BitVec 32 := 32#32
  let c0_i32_85 : BitVec 32 := 0#32
  let v141 : BitVec 1 := Scalar.cmpi .eq c32_i32_84 c0_i32_85
  let c1_i32_86 : BitVec 32 := 1#32
  let v142 : BitVec 32 := Scalar.select v141 c1_i32_86 c32_i32_84
  let v143 : BitVec 32 := Scalar.remsi v140 v142
  let c0_i32_88 : BitVec 32 := 0#32
  let v145 : BitVec 1 := Scalar.cmpi .slt v143 c0_i32_88
  let c0_i32_89 : BitVec 32 := 0#32
  let v146 : BitVec 1 := Scalar.cmpi .slt v142 c0_i32_89
  let v147 : BitVec 1 := Scalar.xori v145 v146
  let c0_i32_87 : BitVec 32 := 0#32
  let v144 : BitVec 1 := Scalar.cmpi .ne v143 c0_i32_87
  let v148 : BitVec 1 := Scalar.andi v147 v144
  let v149 : BitVec 32 := Scalar.addi v143 v142
  let v150 : BitVec 32 := Scalar.select v148 v149 v143
  let c1_i32_92 : BitVec 32 := 1#32
  let v152 : BitVec 32 := Scalar.muli v150 c1_i32_92
  let v153 : BitVec 32 := Scalar.addi c0_i32_93 v152
  v153.toNat
def k0_dev8 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v161 : BitVec 32 := Scalar.addi v2 c8_i32
  let c32_i32_97 : BitVec 32 := 32#32
  let c0_i32_98 : BitVec 32 := 0#32
  let v162 : BitVec 1 := Scalar.cmpi .eq c32_i32_97 c0_i32_98
  let c1_i32_99 : BitVec 32 := 1#32
  let v163 : BitVec 32 := Scalar.select v162 c1_i32_99 c32_i32_97
  let v164 : BitVec 32 := Scalar.remsi v161 v163
  let c0_i32_101 : BitVec 32 := 0#32
  let v166 : BitVec 1 := Scalar.cmpi .slt v164 c0_i32_101
  let c0_i32_102 : BitVec 32 := 0#32
  let v167 : BitVec 1 := Scalar.cmpi .slt v163 c0_i32_102
  let v168 : BitVec 1 := Scalar.xori v166 v167
  let c0_i32_100 : BitVec 32 := 0#32
  let v165 : BitVec 1 := Scalar.cmpi .ne v164 c0_i32_100
  let v169 : BitVec 1 := Scalar.andi v168 v165
  let v170 : BitVec 32 := Scalar.addi v164 v163
  let v171 : BitVec 32 := Scalar.select v169 v170 v164
  let c1_i32_105 : BitVec 32 := 1#32
  let v173 : BitVec 32 := Scalar.muli v171 c1_i32_105
  let v174 : BitVec 32 := Scalar.addi c0_i32_106 v173
  v174.toNat
def k0_dev9 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v182 : BitVec 32 := Scalar.addi v2 c9_i32
  let c32_i32_110 : BitVec 32 := 32#32
  let c0_i32_111 : BitVec 32 := 0#32
  let v183 : BitVec 1 := Scalar.cmpi .eq c32_i32_110 c0_i32_111
  let c1_i32_112 : BitVec 32 := 1#32
  let v184 : BitVec 32 := Scalar.select v183 c1_i32_112 c32_i32_110
  let v185 : BitVec 32 := Scalar.remsi v182 v184
  let c0_i32_114 : BitVec 32 := 0#32
  let v187 : BitVec 1 := Scalar.cmpi .slt v185 c0_i32_114
  let c0_i32_115 : BitVec 32 := 0#32
  let v188 : BitVec 1 := Scalar.cmpi .slt v184 c0_i32_115
  let v189 : BitVec 1 := Scalar.xori v187 v188
  let c0_i32_113 : BitVec 32 := 0#32
  let v186 : BitVec 1 := Scalar.cmpi .ne v185 c0_i32_113
  let v190 : BitVec 1 := Scalar.andi v189 v186
  let v191 : BitVec 32 := Scalar.addi v185 v184
  let v192 : BitVec 32 := Scalar.select v190 v191 v185
  let c1_i32_118 : BitVec 32 := 1#32
  let v194 : BitVec 32 := Scalar.muli v192 c1_i32_118
  let v195 : BitVec 32 := Scalar.addi c0_i32_119 v194
  v195.toNat
def k0_dev10 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v203 : BitVec 32 := Scalar.addi v2 c10_i32
  let c32_i32_123 : BitVec 32 := 32#32
  let c0_i32_124 : BitVec 32 := 0#32
  let v204 : BitVec 1 := Scalar.cmpi .eq c32_i32_123 c0_i32_124
  let c1_i32_125 : BitVec 32 := 1#32
  let v205 : BitVec 32 := Scalar.select v204 c1_i32_125 c32_i32_123
  let v206 : BitVec 32 := Scalar.remsi v203 v205
  let c0_i32_127 : BitVec 32 := 0#32
  let v208 : BitVec 1 := Scalar.cmpi .slt v206 c0_i32_127
  let c0_i32_128 : BitVec 32 := 0#32
  let v209 : BitVec 1 := Scalar.cmpi .slt v205 c0_i32_128
  let v210 : BitVec 1 := Scalar.xori v208 v209
  let c0_i32_126 : BitVec 32 := 0#32
  let v207 : BitVec 1 := Scalar.cmpi .ne v206 c0_i32_126
  let v211 : BitVec 1 := Scalar.andi v210 v207
  let v212 : BitVec 32 := Scalar.addi v206 v205
  let v213 : BitVec 32 := Scalar.select v211 v212 v206
  let c1_i32_131 : BitVec 32 := 1#32
  let v215 : BitVec 32 := Scalar.muli v213 c1_i32_131
  let v216 : BitVec 32 := Scalar.addi c0_i32_132 v215
  v216.toNat
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v224 : BitVec 32 := Scalar.addi v2 c11_i32
  let c32_i32_136 : BitVec 32 := 32#32
  let c0_i32_137 : BitVec 32 := 0#32
  let v225 : BitVec 1 := Scalar.cmpi .eq c32_i32_136 c0_i32_137
  let c1_i32_138 : BitVec 32 := 1#32
  let v226 : BitVec 32 := Scalar.select v225 c1_i32_138 c32_i32_136
  let v227 : BitVec 32 := Scalar.remsi v224 v226
  let c0_i32_140 : BitVec 32 := 0#32
  let v229 : BitVec 1 := Scalar.cmpi .slt v227 c0_i32_140
  let c0_i32_141 : BitVec 32 := 0#32
  let v230 : BitVec 1 := Scalar.cmpi .slt v226 c0_i32_141
  let v231 : BitVec 1 := Scalar.xori v229 v230
  let c0_i32_139 : BitVec 32 := 0#32
  let v228 : BitVec 1 := Scalar.cmpi .ne v227 c0_i32_139
  let v232 : BitVec 1 := Scalar.andi v231 v228
  let v233 : BitVec 32 := Scalar.addi v227 v226
  let v234 : BitVec 32 := Scalar.select v232 v233 v227
  let c1_i32_144 : BitVec 32 := 1#32
  let v236 : BitVec 32 := Scalar.muli v234 c1_i32_144
  let v237 : BitVec 32 := Scalar.addi c0_i32_145 v236
  v237.toNat
def k0_dev12 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v245 : BitVec 32 := Scalar.addi v2 c12_i32
  let c32_i32_149 : BitVec 32 := 32#32
  let c0_i32_150 : BitVec 32 := 0#32
  let v246 : BitVec 1 := Scalar.cmpi .eq c32_i32_149 c0_i32_150
  let c1_i32_151 : BitVec 32 := 1#32
  let v247 : BitVec 32 := Scalar.select v246 c1_i32_151 c32_i32_149
  let v248 : BitVec 32 := Scalar.remsi v245 v247
  let c0_i32_153 : BitVec 32 := 0#32
  let v250 : BitVec 1 := Scalar.cmpi .slt v248 c0_i32_153
  let c0_i32_154 : BitVec 32 := 0#32
  let v251 : BitVec 1 := Scalar.cmpi .slt v247 c0_i32_154
  let v252 : BitVec 1 := Scalar.xori v250 v251
  let c0_i32_152 : BitVec 32 := 0#32
  let v249 : BitVec 1 := Scalar.cmpi .ne v248 c0_i32_152
  let v253 : BitVec 1 := Scalar.andi v252 v249
  let v254 : BitVec 32 := Scalar.addi v248 v247
  let v255 : BitVec 32 := Scalar.select v253 v254 v248
  let c1_i32_157 : BitVec 32 := 1#32
  let v257 : BitVec 32 := Scalar.muli v255 c1_i32_157
  let v258 : BitVec 32 := Scalar.addi c0_i32_158 v257
  v258.toNat
def k0_dev13 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v266 : BitVec 32 := Scalar.addi v2 c13_i32
  let c32_i32_162 : BitVec 32 := 32#32
  let c0_i32_163 : BitVec 32 := 0#32
  let v267 : BitVec 1 := Scalar.cmpi .eq c32_i32_162 c0_i32_163
  let c1_i32_164 : BitVec 32 := 1#32
  let v268 : BitVec 32 := Scalar.select v267 c1_i32_164 c32_i32_162
  let v269 : BitVec 32 := Scalar.remsi v266 v268
  let c0_i32_166 : BitVec 32 := 0#32
  let v271 : BitVec 1 := Scalar.cmpi .slt v269 c0_i32_166
  let c0_i32_167 : BitVec 32 := 0#32
  let v272 : BitVec 1 := Scalar.cmpi .slt v268 c0_i32_167
  let v273 : BitVec 1 := Scalar.xori v271 v272
  let c0_i32_165 : BitVec 32 := 0#32
  let v270 : BitVec 1 := Scalar.cmpi .ne v269 c0_i32_165
  let v274 : BitVec 1 := Scalar.andi v273 v270
  let v275 : BitVec 32 := Scalar.addi v269 v268
  let v276 : BitVec 32 := Scalar.select v274 v275 v269
  let c1_i32_170 : BitVec 32 := 1#32
  let v278 : BitVec 32 := Scalar.muli v276 c1_i32_170
  let v279 : BitVec 32 := Scalar.addi c0_i32_171 v278
  v279.toNat
def k0_dev14 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v287 : BitVec 32 := Scalar.addi v2 c14_i32
  let c32_i32_175 : BitVec 32 := 32#32
  let c0_i32_176 : BitVec 32 := 0#32
  let v288 : BitVec 1 := Scalar.cmpi .eq c32_i32_175 c0_i32_176
  let c1_i32_177 : BitVec 32 := 1#32
  let v289 : BitVec 32 := Scalar.select v288 c1_i32_177 c32_i32_175
  let v290 : BitVec 32 := Scalar.remsi v287 v289
  let c0_i32_179 : BitVec 32 := 0#32
  let v292 : BitVec 1 := Scalar.cmpi .slt v290 c0_i32_179
  let c0_i32_180 : BitVec 32 := 0#32
  let v293 : BitVec 1 := Scalar.cmpi .slt v289 c0_i32_180
  let v294 : BitVec 1 := Scalar.xori v292 v293
  let c0_i32_178 : BitVec 32 := 0#32
  let v291 : BitVec 1 := Scalar.cmpi .ne v290 c0_i32_178
  let v295 : BitVec 1 := Scalar.andi v294 v291
  let v296 : BitVec 32 := Scalar.addi v290 v289
  let v297 : BitVec 32 := Scalar.select v295 v296 v290
  let c1_i32_183 : BitVec 32 := 1#32
  let v299 : BitVec 32 := Scalar.muli v297 c1_i32_183
  let v300 : BitVec 32 := Scalar.addi c0_i32_184 v299
  v300.toNat
def k0_dev15 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v308 : BitVec 32 := Scalar.addi v2 c15_i32
  let c32_i32_188 : BitVec 32 := 32#32
  let c0_i32_189 : BitVec 32 := 0#32
  let v309 : BitVec 1 := Scalar.cmpi .eq c32_i32_188 c0_i32_189
  let c1_i32_190 : BitVec 32 := 1#32
  let v310 : BitVec 32 := Scalar.select v309 c1_i32_190 c32_i32_188
  let v311 : BitVec 32 := Scalar.remsi v308 v310
  let c0_i32_192 : BitVec 32 := 0#32
  let v313 : BitVec 1 := Scalar.cmpi .slt v311 c0_i32_192
  let c0_i32_193 : BitVec 32 := 0#32
  let v314 : BitVec 1 := Scalar.cmpi .slt v310 c0_i32_193
  let v315 : BitVec 1 := Scalar.xori v313 v314
  let c0_i32_191 : BitVec 32 := 0#32
  let v312 : BitVec 1 := Scalar.cmpi .ne v311 c0_i32_191
  let v316 : BitVec 1 := Scalar.andi v315 v312
  let v317 : BitVec 32 := Scalar.addi v311 v310
  let v318 : BitVec 32 := Scalar.select v316 v317 v311
  let c1_i32_196 : BitVec 32 := 1#32
  let v320 : BitVec 32 := Scalar.muli v318 c1_i32_196
  let v321 : BitVec 32 := Scalar.addi c0_i32_197 v320
  v321.toNat
def k0_dev16 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v329 : BitVec 32 := Scalar.addi v2 c16_i32
  let c32_i32_201 : BitVec 32 := 32#32
  let c0_i32_202 : BitVec 32 := 0#32
  let v330 : BitVec 1 := Scalar.cmpi .eq c32_i32_201 c0_i32_202
  let c1_i32_203 : BitVec 32 := 1#32
  let v331 : BitVec 32 := Scalar.select v330 c1_i32_203 c32_i32_201
  let v332 : BitVec 32 := Scalar.remsi v329 v331
  let c0_i32_205 : BitVec 32 := 0#32
  let v334 : BitVec 1 := Scalar.cmpi .slt v332 c0_i32_205
  let c0_i32_206 : BitVec 32 := 0#32
  let v335 : BitVec 1 := Scalar.cmpi .slt v331 c0_i32_206
  let v336 : BitVec 1 := Scalar.xori v334 v335
  let c0_i32_204 : BitVec 32 := 0#32
  let v333 : BitVec 1 := Scalar.cmpi .ne v332 c0_i32_204
  let v337 : BitVec 1 := Scalar.andi v336 v333
  let v338 : BitVec 32 := Scalar.addi v332 v331
  let v339 : BitVec 32 := Scalar.select v337 v338 v332
  let c1_i32_209 : BitVec 32 := 1#32
  let v341 : BitVec 32 := Scalar.muli v339 c1_i32_209
  let v342 : BitVec 32 := Scalar.addi c0_i32_210 v341
  v342.toNat
def k0_dev17 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v350 : BitVec 32 := Scalar.addi v2 c17_i32
  let c32_i32_214 : BitVec 32 := 32#32
  let c0_i32_215 : BitVec 32 := 0#32
  let v351 : BitVec 1 := Scalar.cmpi .eq c32_i32_214 c0_i32_215
  let c1_i32_216 : BitVec 32 := 1#32
  let v352 : BitVec 32 := Scalar.select v351 c1_i32_216 c32_i32_214
  let v353 : BitVec 32 := Scalar.remsi v350 v352
  let c0_i32_218 : BitVec 32 := 0#32
  let v355 : BitVec 1 := Scalar.cmpi .slt v353 c0_i32_218
  let c0_i32_219 : BitVec 32 := 0#32
  let v356 : BitVec 1 := Scalar.cmpi .slt v352 c0_i32_219
  let v357 : BitVec 1 := Scalar.xori v355 v356
  let c0_i32_217 : BitVec 32 := 0#32
  let v354 : BitVec 1 := Scalar.cmpi .ne v353 c0_i32_217
  let v358 : BitVec 1 := Scalar.andi v357 v354
  let v359 : BitVec 32 := Scalar.addi v353 v352
  let v360 : BitVec 32 := Scalar.select v358 v359 v353
  let c1_i32_222 : BitVec 32 := 1#32
  let v362 : BitVec 32 := Scalar.muli v360 c1_i32_222
  let v363 : BitVec 32 := Scalar.addi c0_i32_223 v362
  v363.toNat
def k0_dev18 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v371 : BitVec 32 := Scalar.addi v2 c18_i32
  let c32_i32_227 : BitVec 32 := 32#32
  let c0_i32_228 : BitVec 32 := 0#32
  let v372 : BitVec 1 := Scalar.cmpi .eq c32_i32_227 c0_i32_228
  let c1_i32_229 : BitVec 32 := 1#32
  let v373 : BitVec 32 := Scalar.select v372 c1_i32_229 c32_i32_227
  let v374 : BitVec 32 := Scalar.remsi v371 v373
  let c0_i32_231 : BitVec 32 := 0#32
  let v376 : BitVec 1 := Scalar.cmpi .slt v374 c0_i32_231
  let c0_i32_232 : BitVec 32 := 0#32
  let v377 : BitVec 1 := Scalar.cmpi .slt v373 c0_i32_232
  let v378 : BitVec 1 := Scalar.xori v376 v377
  let c0_i32_230 : BitVec 32 := 0#32
  let v375 : BitVec 1 := Scalar.cmpi .ne v374 c0_i32_230
  let v379 : BitVec 1 := Scalar.andi v378 v375
  let v380 : BitVec 32 := Scalar.addi v374 v373
  let v381 : BitVec 32 := Scalar.select v379 v380 v374
  let c1_i32_235 : BitVec 32 := 1#32
  let v383 : BitVec 32 := Scalar.muli v381 c1_i32_235
  let v384 : BitVec 32 := Scalar.addi c0_i32_236 v383
  v384.toNat
def k0_dev19 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v392 : BitVec 32 := Scalar.addi v2 c19_i32
  let c32_i32_240 : BitVec 32 := 32#32
  let c0_i32_241 : BitVec 32 := 0#32
  let v393 : BitVec 1 := Scalar.cmpi .eq c32_i32_240 c0_i32_241
  let c1_i32_242 : BitVec 32 := 1#32
  let v394 : BitVec 32 := Scalar.select v393 c1_i32_242 c32_i32_240
  let v395 : BitVec 32 := Scalar.remsi v392 v394
  let c0_i32_244 : BitVec 32 := 0#32
  let v397 : BitVec 1 := Scalar.cmpi .slt v395 c0_i32_244
  let c0_i32_245 : BitVec 32 := 0#32
  let v398 : BitVec 1 := Scalar.cmpi .slt v394 c0_i32_245
  let v399 : BitVec 1 := Scalar.xori v397 v398
  let c0_i32_243 : BitVec 32 := 0#32
  let v396 : BitVec 1 := Scalar.cmpi .ne v395 c0_i32_243
  let v400 : BitVec 1 := Scalar.andi v399 v396
  let v401 : BitVec 32 := Scalar.addi v395 v394
  let v402 : BitVec 32 := Scalar.select v400 v401 v395
  let c1_i32_248 : BitVec 32 := 1#32
  let v404 : BitVec 32 := Scalar.muli v402 c1_i32_248
  let v405 : BitVec 32 := Scalar.addi c0_i32_249 v404
  v405.toNat
def k0_dev20 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v413 : BitVec 32 := Scalar.addi v2 c20_i32
  let c32_i32_253 : BitVec 32 := 32#32
  let c0_i32_254 : BitVec 32 := 0#32
  let v414 : BitVec 1 := Scalar.cmpi .eq c32_i32_253 c0_i32_254
  let c1_i32_255 : BitVec 32 := 1#32
  let v415 : BitVec 32 := Scalar.select v414 c1_i32_255 c32_i32_253
  let v416 : BitVec 32 := Scalar.remsi v413 v415
  let c0_i32_257 : BitVec 32 := 0#32
  let v418 : BitVec 1 := Scalar.cmpi .slt v416 c0_i32_257
  let c0_i32_258 : BitVec 32 := 0#32
  let v419 : BitVec 1 := Scalar.cmpi .slt v415 c0_i32_258
  let v420 : BitVec 1 := Scalar.xori v418 v419
  let c0_i32_256 : BitVec 32 := 0#32
  let v417 : BitVec 1 := Scalar.cmpi .ne v416 c0_i32_256
  let v421 : BitVec 1 := Scalar.andi v420 v417
  let v422 : BitVec 32 := Scalar.addi v416 v415
  let v423 : BitVec 32 := Scalar.select v421 v422 v416
  let c1_i32_261 : BitVec 32 := 1#32
  let v425 : BitVec 32 := Scalar.muli v423 c1_i32_261
  let v426 : BitVec 32 := Scalar.addi c0_i32_262 v425
  v426.toNat
def k0_dev21 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v434 : BitVec 32 := Scalar.addi v2 c21_i32
  let c32_i32_266 : BitVec 32 := 32#32
  let c0_i32_267 : BitVec 32 := 0#32
  let v435 : BitVec 1 := Scalar.cmpi .eq c32_i32_266 c0_i32_267
  let c1_i32_268 : BitVec 32 := 1#32
  let v436 : BitVec 32 := Scalar.select v435 c1_i32_268 c32_i32_266
  let v437 : BitVec 32 := Scalar.remsi v434 v436
  let c0_i32_270 : BitVec 32 := 0#32
  let v439 : BitVec 1 := Scalar.cmpi .slt v437 c0_i32_270
  let c0_i32_271 : BitVec 32 := 0#32
  let v440 : BitVec 1 := Scalar.cmpi .slt v436 c0_i32_271
  let v441 : BitVec 1 := Scalar.xori v439 v440
  let c0_i32_269 : BitVec 32 := 0#32
  let v438 : BitVec 1 := Scalar.cmpi .ne v437 c0_i32_269
  let v442 : BitVec 1 := Scalar.andi v441 v438
  let v443 : BitVec 32 := Scalar.addi v437 v436
  let v444 : BitVec 32 := Scalar.select v442 v443 v437
  let c1_i32_274 : BitVec 32 := 1#32
  let v446 : BitVec 32 := Scalar.muli v444 c1_i32_274
  let v447 : BitVec 32 := Scalar.addi c0_i32_275 v446
  v447.toNat
def k0_dev22 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v455 : BitVec 32 := Scalar.addi v2 c22_i32
  let c32_i32_279 : BitVec 32 := 32#32
  let c0_i32_280 : BitVec 32 := 0#32
  let v456 : BitVec 1 := Scalar.cmpi .eq c32_i32_279 c0_i32_280
  let c1_i32_281 : BitVec 32 := 1#32
  let v457 : BitVec 32 := Scalar.select v456 c1_i32_281 c32_i32_279
  let v458 : BitVec 32 := Scalar.remsi v455 v457
  let c0_i32_283 : BitVec 32 := 0#32
  let v460 : BitVec 1 := Scalar.cmpi .slt v458 c0_i32_283
  let c0_i32_284 : BitVec 32 := 0#32
  let v461 : BitVec 1 := Scalar.cmpi .slt v457 c0_i32_284
  let v462 : BitVec 1 := Scalar.xori v460 v461
  let c0_i32_282 : BitVec 32 := 0#32
  let v459 : BitVec 1 := Scalar.cmpi .ne v458 c0_i32_282
  let v463 : BitVec 1 := Scalar.andi v462 v459
  let v464 : BitVec 32 := Scalar.addi v458 v457
  let v465 : BitVec 32 := Scalar.select v463 v464 v458
  let c1_i32_287 : BitVec 32 := 1#32
  let v467 : BitVec 32 := Scalar.muli v465 c1_i32_287
  let v468 : BitVec 32 := Scalar.addi c0_i32_288 v467
  v468.toNat
def k0_dev23 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v476 : BitVec 32 := Scalar.addi v2 c23_i32
  let c32_i32_292 : BitVec 32 := 32#32
  let c0_i32_293 : BitVec 32 := 0#32
  let v477 : BitVec 1 := Scalar.cmpi .eq c32_i32_292 c0_i32_293
  let c1_i32_294 : BitVec 32 := 1#32
  let v478 : BitVec 32 := Scalar.select v477 c1_i32_294 c32_i32_292
  let v479 : BitVec 32 := Scalar.remsi v476 v478
  let c0_i32_296 : BitVec 32 := 0#32
  let v481 : BitVec 1 := Scalar.cmpi .slt v479 c0_i32_296
  let c0_i32_297 : BitVec 32 := 0#32
  let v482 : BitVec 1 := Scalar.cmpi .slt v478 c0_i32_297
  let v483 : BitVec 1 := Scalar.xori v481 v482
  let c0_i32_295 : BitVec 32 := 0#32
  let v480 : BitVec 1 := Scalar.cmpi .ne v479 c0_i32_295
  let v484 : BitVec 1 := Scalar.andi v483 v480
  let v485 : BitVec 32 := Scalar.addi v479 v478
  let v486 : BitVec 32 := Scalar.select v484 v485 v479
  let c1_i32_300 : BitVec 32 := 1#32
  let v488 : BitVec 32 := Scalar.muli v486 c1_i32_300
  let v489 : BitVec 32 := Scalar.addi c0_i32_301 v488
  v489.toNat
def k0_dev24 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v497 : BitVec 32 := Scalar.addi v2 c24_i32
  let c32_i32_305 : BitVec 32 := 32#32
  let c0_i32_306 : BitVec 32 := 0#32
  let v498 : BitVec 1 := Scalar.cmpi .eq c32_i32_305 c0_i32_306
  let c1_i32_307 : BitVec 32 := 1#32
  let v499 : BitVec 32 := Scalar.select v498 c1_i32_307 c32_i32_305
  let v500 : BitVec 32 := Scalar.remsi v497 v499
  let c0_i32_309 : BitVec 32 := 0#32
  let v502 : BitVec 1 := Scalar.cmpi .slt v500 c0_i32_309
  let c0_i32_310 : BitVec 32 := 0#32
  let v503 : BitVec 1 := Scalar.cmpi .slt v499 c0_i32_310
  let v504 : BitVec 1 := Scalar.xori v502 v503
  let c0_i32_308 : BitVec 32 := 0#32
  let v501 : BitVec 1 := Scalar.cmpi .ne v500 c0_i32_308
  let v505 : BitVec 1 := Scalar.andi v504 v501
  let v506 : BitVec 32 := Scalar.addi v500 v499
  let v507 : BitVec 32 := Scalar.select v505 v506 v500
  let c1_i32_313 : BitVec 32 := 1#32
  let v509 : BitVec 32 := Scalar.muli v507 c1_i32_313
  let v510 : BitVec 32 := Scalar.addi c0_i32_314 v509
  v510.toNat
def k0_dev25 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v518 : BitVec 32 := Scalar.addi v2 c25_i32
  let c32_i32_318 : BitVec 32 := 32#32
  let c0_i32_319 : BitVec 32 := 0#32
  let v519 : BitVec 1 := Scalar.cmpi .eq c32_i32_318 c0_i32_319
  let c1_i32_320 : BitVec 32 := 1#32
  let v520 : BitVec 32 := Scalar.select v519 c1_i32_320 c32_i32_318
  let v521 : BitVec 32 := Scalar.remsi v518 v520
  let c0_i32_322 : BitVec 32 := 0#32
  let v523 : BitVec 1 := Scalar.cmpi .slt v521 c0_i32_322
  let c0_i32_323 : BitVec 32 := 0#32
  let v524 : BitVec 1 := Scalar.cmpi .slt v520 c0_i32_323
  let v525 : BitVec 1 := Scalar.xori v523 v524
  let c0_i32_321 : BitVec 32 := 0#32
  let v522 : BitVec 1 := Scalar.cmpi .ne v521 c0_i32_321
  let v526 : BitVec 1 := Scalar.andi v525 v522
  let v527 : BitVec 32 := Scalar.addi v521 v520
  let v528 : BitVec 32 := Scalar.select v526 v527 v521
  let c1_i32_326 : BitVec 32 := 1#32
  let v530 : BitVec 32 := Scalar.muli v528 c1_i32_326
  let v531 : BitVec 32 := Scalar.addi c0_i32_327 v530
  v531.toNat
def k0_dev26 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v539 : BitVec 32 := Scalar.addi v2 c26_i32
  let c32_i32_331 : BitVec 32 := 32#32
  let c0_i32_332 : BitVec 32 := 0#32
  let v540 : BitVec 1 := Scalar.cmpi .eq c32_i32_331 c0_i32_332
  let c1_i32_333 : BitVec 32 := 1#32
  let v541 : BitVec 32 := Scalar.select v540 c1_i32_333 c32_i32_331
  let v542 : BitVec 32 := Scalar.remsi v539 v541
  let c0_i32_335 : BitVec 32 := 0#32
  let v544 : BitVec 1 := Scalar.cmpi .slt v542 c0_i32_335
  let c0_i32_336 : BitVec 32 := 0#32
  let v545 : BitVec 1 := Scalar.cmpi .slt v541 c0_i32_336
  let v546 : BitVec 1 := Scalar.xori v544 v545
  let c0_i32_334 : BitVec 32 := 0#32
  let v543 : BitVec 1 := Scalar.cmpi .ne v542 c0_i32_334
  let v547 : BitVec 1 := Scalar.andi v546 v543
  let v548 : BitVec 32 := Scalar.addi v542 v541
  let v549 : BitVec 32 := Scalar.select v547 v548 v542
  let c1_i32_339 : BitVec 32 := 1#32
  let v551 : BitVec 32 := Scalar.muli v549 c1_i32_339
  let v552 : BitVec 32 := Scalar.addi c0_i32_340 v551
  v552.toNat
def k0_dev27 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v560 : BitVec 32 := Scalar.addi v2 c27_i32
  let c32_i32_344 : BitVec 32 := 32#32
  let c0_i32_345 : BitVec 32 := 0#32
  let v561 : BitVec 1 := Scalar.cmpi .eq c32_i32_344 c0_i32_345
  let c1_i32_346 : BitVec 32 := 1#32
  let v562 : BitVec 32 := Scalar.select v561 c1_i32_346 c32_i32_344
  let v563 : BitVec 32 := Scalar.remsi v560 v562
  let c0_i32_348 : BitVec 32 := 0#32
  let v565 : BitVec 1 := Scalar.cmpi .slt v563 c0_i32_348
  let c0_i32_349 : BitVec 32 := 0#32
  let v566 : BitVec 1 := Scalar.cmpi .slt v562 c0_i32_349
  let v567 : BitVec 1 := Scalar.xori v565 v566
  let c0_i32_347 : BitVec 32 := 0#32
  let v564 : BitVec 1 := Scalar.cmpi .ne v563 c0_i32_347
  let v568 : BitVec 1 := Scalar.andi v567 v564
  let v569 : BitVec 32 := Scalar.addi v563 v562
  let v570 : BitVec 32 := Scalar.select v568 v569 v563
  let c1_i32_352 : BitVec 32 := 1#32
  let v572 : BitVec 32 := Scalar.muli v570 c1_i32_352
  let v573 : BitVec 32 := Scalar.addi c0_i32_353 v572
  v573.toNat
def k0_dev28 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v581 : BitVec 32 := Scalar.addi v2 c28_i32
  let c32_i32_357 : BitVec 32 := 32#32
  let c0_i32_358 : BitVec 32 := 0#32
  let v582 : BitVec 1 := Scalar.cmpi .eq c32_i32_357 c0_i32_358
  let c1_i32_359 : BitVec 32 := 1#32
  let v583 : BitVec 32 := Scalar.select v582 c1_i32_359 c32_i32_357
  let v584 : BitVec 32 := Scalar.remsi v581 v583
  let c0_i32_361 : BitVec 32 := 0#32
  let v586 : BitVec 1 := Scalar.cmpi .slt v584 c0_i32_361
  let c0_i32_362 : BitVec 32 := 0#32
  let v587 : BitVec 1 := Scalar.cmpi .slt v583 c0_i32_362
  let v588 : BitVec 1 := Scalar.xori v586 v587
  let c0_i32_360 : BitVec 32 := 0#32
  let v585 : BitVec 1 := Scalar.cmpi .ne v584 c0_i32_360
  let v589 : BitVec 1 := Scalar.andi v588 v585
  let v590 : BitVec 32 := Scalar.addi v584 v583
  let v591 : BitVec 32 := Scalar.select v589 v590 v584
  let c1_i32_365 : BitVec 32 := 1#32
  let v593 : BitVec 32 := Scalar.muli v591 c1_i32_365
  let v594 : BitVec 32 := Scalar.addi c0_i32_366 v593
  v594.toNat
def k0_dev29 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v602 : BitVec 32 := Scalar.addi v2 c29_i32
  let c32_i32_370 : BitVec 32 := 32#32
  let c0_i32_371 : BitVec 32 := 0#32
  let v603 : BitVec 1 := Scalar.cmpi .eq c32_i32_370 c0_i32_371
  let c1_i32_372 : BitVec 32 := 1#32
  let v604 : BitVec 32 := Scalar.select v603 c1_i32_372 c32_i32_370
  let v605 : BitVec 32 := Scalar.remsi v602 v604
  let c0_i32_374 : BitVec 32 := 0#32
  let v607 : BitVec 1 := Scalar.cmpi .slt v605 c0_i32_374
  let c0_i32_375 : BitVec 32 := 0#32
  let v608 : BitVec 1 := Scalar.cmpi .slt v604 c0_i32_375
  let v609 : BitVec 1 := Scalar.xori v607 v608
  let c0_i32_373 : BitVec 32 := 0#32
  let v606 : BitVec 1 := Scalar.cmpi .ne v605 c0_i32_373
  let v610 : BitVec 1 := Scalar.andi v609 v606
  let v611 : BitVec 32 := Scalar.addi v605 v604
  let v612 : BitVec 32 := Scalar.select v610 v611 v605
  let c1_i32_378 : BitVec 32 := 1#32
  let v614 : BitVec 32 := Scalar.muli v612 c1_i32_378
  let v615 : BitVec 32 := Scalar.addi c0_i32_379 v614
  v615.toNat
def k0_dev30 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v623 : BitVec 32 := Scalar.addi v2 c30_i32
  let c32_i32_383 : BitVec 32 := 32#32
  let c0_i32_384 : BitVec 32 := 0#32
  let v624 : BitVec 1 := Scalar.cmpi .eq c32_i32_383 c0_i32_384
  let c1_i32_385 : BitVec 32 := 1#32
  let v625 : BitVec 32 := Scalar.select v624 c1_i32_385 c32_i32_383
  let v626 : BitVec 32 := Scalar.remsi v623 v625
  let c0_i32_387 : BitVec 32 := 0#32
  let v628 : BitVec 1 := Scalar.cmpi .slt v626 c0_i32_387
  let c0_i32_388 : BitVec 32 := 0#32
  let v629 : BitVec 1 := Scalar.cmpi .slt v625 c0_i32_388
  let v630 : BitVec 1 := Scalar.xori v628 v629
  let c0_i32_386 : BitVec 32 := 0#32
  let v627 : BitVec 1 := Scalar.cmpi .ne v626 c0_i32_386
  let v631 : BitVec 1 := Scalar.andi v630 v627
  let v632 : BitVec 32 := Scalar.addi v626 v625
  let v633 : BitVec 32 := Scalar.select v631 v632 v626
  let c1_i32_391 : BitVec 32 := 1#32
  let v635 : BitVec 32 := Scalar.muli v633 c1_i32_391
  let v636 : BitVec 32 := Scalar.addi c0_i32_392 v635
  v636.toNat
def k0_dev31 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v644 : BitVec 32 := Scalar.addi v2 c31_i32
  let c32_i32_396 : BitVec 32 := 32#32
  let c0_i32_397 : BitVec 32 := 0#32
  let v645 : BitVec 1 := Scalar.cmpi .eq c32_i32_396 c0_i32_397
  let c1_i32_398 : BitVec 32 := 1#32
  let v646 : BitVec 32 := Scalar.select v645 c1_i32_398 c32_i32_396
  let v647 : BitVec 32 := Scalar.remsi v644 v646
  let c0_i32_400 : BitVec 32 := 0#32
  let v649 : BitVec 1 := Scalar.cmpi .slt v647 c0_i32_400
  let c0_i32_401 : BitVec 32 := 0#32
  let v650 : BitVec 1 := Scalar.cmpi .slt v646 c0_i32_401
  let v651 : BitVec 1 := Scalar.xori v649 v650
  let c0_i32_399 : BitVec 32 := 0#32
  let v648 : BitVec 1 := Scalar.cmpi .ne v647 c0_i32_399
  let v652 : BitVec 1 := Scalar.andi v651 v648
  let v653 : BitVec 32 := Scalar.addi v647 v646
  let v654 : BitVec 32 := Scalar.select v652 v653 v647
  let c1_i32_404 : BitVec 32 := 1#32
  let v656 : BitVec 32 := Scalar.muli v654 c1_i32_404
  let v657 : BitVec 32 := Scalar.addi c0_i32_405 v656
  v657.toNat
abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Entered.lean ====
abbrev S2048x64 : Shape := ⟨2, ![2048, 64]⟩
abbrev S2048x2048 : Shape := ⟨2, ![2048, 2048]⟩
abbrev S64x2048 : Shape := ⟨2, ![64, 2048]⟩
abbrev S32x64x64 : Shape := ⟨3, ![32, 64, 64]⟩
abbrev S32 : Shape := ⟨1, ![32]⟩
abbrev S_ : Shape := ⟨0, ![]⟩
abbrev S1 : Shape := ⟨1, ![1]⟩
abbrev S1x64x64 : Shape := ⟨3, ![1, 64, 64]⟩
abbrev S64x64 : Shape := ⟨2, ![64, 64]⟩

abbrev nBuf : Space → Nat
  | .hbm => 3
  | .vmem => 5
  | .smem => 0
  | _ => 0

abbrev bufTy : (tb : Table) → Fin (tcTables nBuf tb) → BufTy
  | .hbm, ⟨0, _⟩ => ⟨S2048x64, .bf16⟩
  | .hbm, ⟨1, _⟩ => ⟨S2048x2048, .bf16⟩
  | .hbm, ⟨2, _⟩ => ⟨S64x2048, .f32⟩
  | .local _ .vmem, ⟨0, _⟩ => ⟨S2048x64, .bf16⟩
  | .local _ .vmem, ⟨1, _⟩ => ⟨S2048x2048, .bf16⟩
  | .local _ .vmem, ⟨2, _⟩ => ⟨S64x2048, .f32⟩
  | .local _ .vmem, ⟨3, _⟩ => ⟨S2048x64, .bf16⟩
  | .local _ .vmem, ⟨4, _⟩ => ⟨S32x64x64, .bf16⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let c0_i32_284 : BitVec 32 := 0#32
  ![v2.toNat, 0, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v412 : BitVec 32 := Scalar.muli v2 c64_i32
  let c0_i32_285 : BitVec 32 := 0#32
  ![v412.toNat, 0]
def k0_off4 (d0 : Dev nD) (c1_i32_286 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v418 : BitVec 32 := Scalar.addi v2 c1_i32_286
  let c32_i32_287 : BitVec 32 := 32#32
  let c0_i32_288 : BitVec 32 := 0#32
  let v419 : BitVec 1 := Scalar.cmpi .eq c32_i32_287 c0_i32_288
  let c1_i32_289 : BitVec 32 := 1#32
  let v420 : BitVec 32 := Scalar.select v419 c1_i32_289 c32_i32_287
  let v421 : BitVec 32 := Scalar.remsi v418 v420
  let c0_i32_291 : BitVec 32 := 0#32
  let v423 : BitVec 1 := Scalar.cmpi .slt v421 c0_i32_291
  let c0_i32_292 : BitVec 32 := 0#32
  let v424 : BitVec 1 := Scalar.cmpi .slt v420 c0_i32_292
  let v425 : BitVec 1 := Scalar.xori v423 v424
  let c0_i32_290 : BitVec 32 := 0#32
  let v422 : BitVec 1 := Scalar.cmpi .ne v421 c0_i32_290
  let v426 : BitVec 1 := Scalar.andi v425 v422
  let v427 : BitVec 32 := Scalar.addi v421 v420
  let v428 : BitVec 32 := Scalar.select v426 v427 v421
  let c64_i32_293 : BitVec 32 := 64#32
  let v429 : BitVec 32 := Scalar.muli v428 c64_i32_293
  let c0_i32_299 : BitVec 32 := 0#32
  ![v429.toNat, 0]
def k0_dev32 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_286 : BitVec 32 := 1#32
  let v418 : BitVec 32 := Scalar.addi v2 c1_i32_286
  let c32_i32_287 : BitVec 32 := 32#32
  let c0_i32_288 : BitVec 32 := 0#32
  let v419 : BitVec 1 := Scalar.cmpi .eq c32_i32_287 c0_i32_288
  let c1_i32_289 : BitVec 32 := 1#32
  let v420 : BitVec 32 := Scalar.select v419 c1_i32_289 c32_i32_287
  let v421 : BitVec 32 := Scalar.remsi v418 v420
  let c0_i32_291 : BitVec 32 := 0#32
  let v423 : BitVec 1 := Scalar.cmpi .slt v421 c0_i32_291
  let c0_i32_292 : BitVec 32 := 0#32
  let v424 : BitVec 1 := Scalar.cmpi .slt v420 c0_i32_292
  let v425 : BitVec 1 := Scalar.xori v423 v424
  let c0_i32_290 : BitVec 32 := 0#32
  let v422 : BitVec 1 := Scalar.cmpi .ne v421 c0_i32_290
  let v426 : BitVec 1 := Scalar.andi v425 v422
  let v427 : BitVec 32 := Scalar.addi v421 v420
  let v428 : BitVec 32 := Scalar.select v426 v427 v421
  let c1_i32_295 : BitVec 32 := 1#32
  let v430 : BitVec 32 := Scalar.muli v428 c1_i32_295
  let v431 : BitVec 32 := Scalar.addi c0_i32_296 v430
  v431.toNat
def k0_dev33 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_300 : BitVec 32 := 2#32
  let v439 : BitVec 32 := Scalar.addi v2 c2_i32_300
  let c32_i32_301 : BitVec 32 := 32#32
  let c0_i32_302 : BitVec 32 := 0#32
  let v440 : BitVec 1 := Scalar.cmpi .eq c32_i32_301 c0_i32_302
  let c1_i32_303 : BitVec 32 := 1#32
  let v441 : BitVec 32 := Scalar.select v440 c1_i32_303 c32_i32_301
  let v442 : BitVec 32 := Scalar.remsi v439 v441
  let c0_i32_305 : BitVec 32 := 0#32
  let v444 : BitVec 1 := Scalar.cmpi .slt v442 c0_i32_305
  let c0_i32_306 : BitVec 32 := 0#32
  let v445 : BitVec 1 := Scalar.cmpi .slt v441 c0_i32_306
  let v446 : BitVec 1 := Scalar.xori v444 v445
  let c0_i32_304 : BitVec 32 := 0#32
  let v443 : BitVec 1 := Scalar.cmpi .ne v442 c0_i32_304
  let v447 : BitVec 1 := Scalar.andi v446 v443
  let v448 : BitVec 32 := Scalar.addi v442 v441
  let v449 : BitVec 32 := Scalar.select v447 v448 v442
  let c1_i32_309 : BitVec 32 := 1#32
  let v451 : BitVec 32 := Scalar.muli v449 c1_i32_309
  let v452 : BitVec 32 := Scalar.addi c0_i32_310 v451
  v452.toNat
def k0_dev34 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_314 : BitVec 32 := 3#32
  let v460 : BitVec 32 := Scalar.addi v2 c3_i32_314
  let c32_i32_315 : BitVec 32 := 32#32
  let c0_i32_316 : BitVec 32 := 0#32
  let v461 : BitVec 1 := Scalar.cmpi .eq c32_i32_315 c0_i32_316
  let c1_i32_317 : BitVec 32 := 1#32
  let v462 : BitVec 32 := Scalar.select v461 c1_i32_317 c32_i32_315
  let v463 : BitVec 32 := Scalar.remsi v460 v462
  let c0_i32_319 : BitVec 32 := 0#32
  let v465 : BitVec 1 := Scalar.cmpi .slt v463 c0_i32_319
  let c0_i32_320 : BitVec 32 := 0#32
  let v466 : BitVec 1 := Scalar.cmpi .slt v462 c0_i32_320
  let v467 : BitVec 1 := Scalar.xori v465 v466
  let c0_i32_318 : BitVec 32 := 0#32
  let v464 : BitVec 1 := Scalar.cmpi .ne v463 c0_i32_318
  let v468 : BitVec 1 := Scalar.andi v467 v464
  let v469 : BitVec 32 := Scalar.addi v463 v462
  let v470 : BitVec 32 := Scalar.select v468 v469 v463
  let c1_i32_323 : BitVec 32 := 1#32
  let v472 : BitVec 32 := Scalar.muli v470 c1_i32_323
  let v473 : BitVec 32 := Scalar.addi c0_i32_324 v472
  v473.toNat
def k0_dev35 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_328 : BitVec 32 := 4#32
  let v481 : BitVec 32 := Scalar.addi v2 c4_i32_328
  let c32_i32_329 : BitVec 32 := 32#32
  let c0_i32_330 : BitVec 32 := 0#32
  let v482 : BitVec 1 := Scalar.cmpi .eq c32_i32_329 c0_i32_330
  let c1_i32_331 : BitVec 32 := 1#32
  let v483 : BitVec 32 := Scalar.select v482 c1_i32_331 c32_i32_329
  let v484 : BitVec 32 := Scalar.remsi v481 v483
  let c0_i32_333 : BitVec 32 := 0#32
  let v486 : BitVec 1 := Scalar.cmpi .slt v484 c0_i32_333
  let c0_i32_334 : BitVec 32 := 0#32
  let v487 : BitVec 1 := Scalar.cmpi .slt v483 c0_i32_334
  let v488 : BitVec 1 := Scalar.xori v486 v487
  let c0_i32_332 : BitVec 32 := 0#32
  let v485 : BitVec 1 := Scalar.cmpi .ne v484 c0_i32_332
  let v489 : BitVec 1 := Scalar.andi v488 v485
  let v490 : BitVec 32 := Scalar.addi v484 v483
  let v491 : BitVec 32 := Scalar.select v489 v490 v484
  let c1_i32_337 : BitVec 32 := 1#32
  let v493 : BitVec 32 := Scalar.muli v491 c1_i32_337
  let v494 : BitVec 32 := Scalar.addi c0_i32_338 v493
  v494.toNat
def k0_dev36 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_342 : BitVec 32 := 5#32
  let v502 : BitVec 32 := Scalar.addi v2 c5_i32_342
  let c32_i32_343 : BitVec 32 := 32#32
  let c0_i32_344 : BitVec 32 := 0#32
  let v503 : BitVec 1 := Scalar.cmpi .eq c32_i32_343 c0_i32_344
  let c1_i32_345 : BitVec 32 := 1#32
  let v504 : BitVec 32 := Scalar.select v503 c1_i32_345 c32_i32_343
  let v505 : BitVec 32 := Scalar.remsi v502 v504
  let c0_i32_347 : BitVec 32 := 0#32
  let v507 : BitVec 1 := Scalar.cmpi .slt v505 c0_i32_347
  let c0_i32_348 : BitVec 32 := 0#32
  let v508 : BitVec 1 := Scalar.cmpi .slt v504 c0_i32_348
  let v509 : BitVec 1 := Scalar.xori v507 v508
  let c0_i32_346 : BitVec 32 := 0#32
  let v506 : BitVec 1 := Scalar.cmpi .ne v505 c0_i32_346
  let v510 : BitVec 1 := Scalar.andi v509 v506
  let v511 : BitVec 32 := Scalar.addi v505 v504
  let v512 : BitVec 32 := Scalar.select v510 v511 v505
  let c1_i32_351 : BitVec 32 := 1#32
  let v514 : BitVec 32 := Scalar.muli v512 c1_i32_351
  let v515 : BitVec 32 := Scalar.addi c0_i32_352 v514
  v515.toNat
def k0_dev37 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_356 : BitVec 32 := 6#32
  let v523 : BitVec 32 := Scalar.addi v2 c6_i32_356
  let c32_i32_357 : BitVec 32 := 32#32
  let c0_i32_358 : BitVec 32 := 0#32
  let v524 : BitVec 1 := Scalar.cmpi .eq c32_i32_357 c0_i32_358
  let c1_i32_359 : BitVec 32 := 1#32
  let v525 : BitVec 32 := Scalar.select v524 c1_i32_359 c32_i32_357
  let v526 : BitVec 32 := Scalar.remsi v523 v525
  let c0_i32_361 : BitVec 32 := 0#32
  let v528 : BitVec 1 := Scalar.cmpi .slt v526 c0_i32_361
  let c0_i32_362 : BitVec 32 := 0#32
  let v529 : BitVec 1 := Scalar.cmpi .slt v525 c0_i32_362
  let v530 : BitVec 1 := Scalar.xori v528 v529
  let c0_i32_360 : BitVec 32 := 0#32
  let v527 : BitVec 1 := Scalar.cmpi .ne v526 c0_i32_360
  let v531 : BitVec 1 := Scalar.andi v530 v527
  let v532 : BitVec 32 := Scalar.addi v526 v525
  let v533 : BitVec 32 := Scalar.select v531 v532 v526
  let c1_i32_365 : BitVec 32 := 1#32
  let v535 : BitVec 32 := Scalar.muli v533 c1_i32_365
  let v536 : BitVec 32 := Scalar.addi c0_i32_366 v535
  v536.toNat
def k0_dev38 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_370 : BitVec 32 := 7#32
  let v544 : BitVec 32 := Scalar.addi v2 c7_i32_370
  let c32_i32_371 : BitVec 32 := 32#32
  let c0_i32_372 : BitVec 32 := 0#32
  let v545 : BitVec 1 := Scalar.cmpi .eq c32_i32_371 c0_i32_372
  let c1_i32_373 : BitVec 32 := 1#32
  let v546 : BitVec 32 := Scalar.select v545 c1_i32_373 c32_i32_371
  let v547 : BitVec 32 := Scalar.remsi v544 v546
  let c0_i32_375 : BitVec 32 := 0#32
  let v549 : BitVec 1 := Scalar.cmpi .slt v547 c0_i32_375
  let c0_i32_376 : BitVec 32 := 0#32
  let v550 : BitVec 1 := Scalar.cmpi .slt v546 c0_i32_376
  let v551 : BitVec 1 := Scalar.xori v549 v550
  let c0_i32_374 : BitVec 32 := 0#32
  let v548 : BitVec 1 := Scalar.cmpi .ne v547 c0_i32_374
  let v552 : BitVec 1 := Scalar.andi v551 v548
  let v553 : BitVec 32 := Scalar.addi v547 v546
  let v554 : BitVec 32 := Scalar.select v552 v553 v547
  let c1_i32_379 : BitVec 32 := 1#32
  let v556 : BitVec 32 := Scalar.muli v554 c1_i32_379
  let v557 : BitVec 32 := Scalar.addi c0_i32_380 v556
  v557.toNat
def k0_dev39 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_384 : BitVec 32 := 8#32
  let v565 : BitVec 32 := Scalar.addi v2 c8_i32_384
  let c32_i32_385 : BitVec 32 := 32#32
  let c0_i32_386 : BitVec 32 := 0#32
  let v566 : BitVec 1 := Scalar.cmpi .eq c32_i32_385 c0_i32_386
  let c1_i32_387 : BitVec 32 := 1#32
  let v567 : BitVec 32 := Scalar.select v566 c1_i32_387 c32_i32_385
  let v568 : BitVec 32 := Scalar.remsi v565 v567
  let c0_i32_389 : BitVec 32 := 0#32
  let v570 : BitVec 1 := Scalar.cmpi .slt v568 c0_i32_389
  let c0_i32_390 : BitVec 32 := 0#32
  let v571 : BitVec 1 := Scalar.cmpi .slt v567 c0_i32_390
  let v572 : BitVec 1 := Scalar.xori v570 v571
  let c0_i32_388 : BitVec 32 := 0#32
  let v569 : BitVec 1 := Scalar.cmpi .ne v568 c0_i32_388
  let v573 : BitVec 1 := Scalar.andi v572 v569
  let v574 : BitVec 32 := Scalar.addi v568 v567
  let v575 : BitVec 32 := Scalar.select v573 v574 v568
  let c1_i32_393 : BitVec 32 := 1#32
  let v577 : BitVec 32 := Scalar.muli v575 c1_i32_393
  let v578 : BitVec 32 := Scalar.addi c0_i32_394 v577
  v578.toNat
def k0_dev40 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_398 : BitVec 32 := 9#32
  let v586 : BitVec 32 := Scalar.addi v2 c9_i32_398
  let c32_i32_399 : BitVec 32 := 32#32
  let c0_i32_400 : BitVec 32 := 0#32
  let v587 : BitVec 1 := Scalar.cmpi .eq c32_i32_399 c0_i32_400
  let c1_i32_401 : BitVec 32 := 1#32
  let v588 : BitVec 32 := Scalar.select v587 c1_i32_401 c32_i32_399
  let v589 : BitVec 32 := Scalar.remsi v586 v588
  let c0_i32_403 : BitVec 32 := 0#32
  let v591 : BitVec 1 := Scalar.cmpi .slt v589 c0_i32_403
  let c0_i32_404 : BitVec 32 := 0#32
  let v592 : BitVec 1 := Scalar.cmpi .slt v588 c0_i32_404
  let v593 : BitVec 1 := Scalar.xori v591 v592
  let c0_i32_402 : BitVec 32 := 0#32
  let v590 : BitVec 1 := Scalar.cmpi .ne v589 c0_i32_402
  let v594 : BitVec 1 := Scalar.andi v593 v590
  let v595 : BitVec 32 := Scalar.addi v589 v588
  let v596 : BitVec 32 := Scalar.select v594 v595 v589
  let c1_i32_407 : BitVec 32 := 1#32
  let v598 : BitVec 32 := Scalar.muli v596 c1_i32_407
  let v599 : BitVec 32 := Scalar.addi c0_i32_408 v598
  v599.toNat
def k0_dev41 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_412 : BitVec 32 := 10#32
  let v607 : BitVec 32 := Scalar.addi v2 c10_i32_412
  let c32_i32_413 : BitVec 32 := 32#32
  let c0_i32_414 : BitVec 32 := 0#32
  let v608 : BitVec 1 := Scalar.cmpi .eq c32_i32_413 c0_i32_414
  let c1_i32_415 : BitVec 32 := 1#32
  let v609 : BitVec 32 := Scalar.select v608 c1_i32_415 c32_i32_413
  let v610 : BitVec 32 := Scalar.remsi v607 v609
  let c0_i32_417 : BitVec 32 := 0#32
  let v612 : BitVec 1 := Scalar.cmpi .slt v610 c0_i32_417
  let c0_i32_418 : BitVec 32 := 0#32
  let v613 : BitVec 1 := Scalar.cmpi .slt v609 c0_i32_418
  let v614 : BitVec 1 := Scalar.xori v612 v613
  let c0_i32_416 : BitVec 32 := 0#32
  let v611 : BitVec 1 := Scalar.cmpi .ne v610 c0_i32_416
  let v615 : BitVec 1 := Scalar.andi v614 v611
  let v616 : BitVec 32 := Scalar.addi v610 v609
  let v617 : BitVec 32 := Scalar.select v615 v616 v610
  let c1_i32_421 : BitVec 32 := 1#32
  let v619 : BitVec 32 := Scalar.muli v617 c1_i32_421
  let v620 : BitVec 32 := Scalar.addi c0_i32_422 v619
  v620.toNat
def k0_dev42 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_426 : BitVec 32 := 11#32
  let v628 : BitVec 32 := Scalar.addi v2 c11_i32_426
  let c32_i32_427 : BitVec 32 := 32#32
  let c0_i32_428 : BitVec 32 := 0#32
  let v629 : BitVec 1 := Scalar.cmpi .eq c32_i32_427 c0_i32_428
  let c1_i32_429 : BitVec 32 := 1#32
  let v630 : BitVec 32 := Scalar.select v629 c1_i32_429 c32_i32_427
  let v631 : BitVec 32 := Scalar.remsi v628 v630
  let c0_i32_431 : BitVec 32 := 0#32
  let v633 : BitVec 1 := Scalar.cmpi .slt v631 c0_i32_431
  let c0_i32_432 : BitVec 32 := 0#32
  let v634 : BitVec 1 := Scalar.cmpi .slt v630 c0_i32_432
  let v635 : BitVec 1 := Scalar.xori v633 v634
  let c0_i32_430 : BitVec 32 := 0#32
  let v632 : BitVec 1 := Scalar.cmpi .ne v631 c0_i32_430
  let v636 : BitVec 1 := Scalar.andi v635 v632
  let v637 : BitVec 32 := Scalar.addi v631 v630
  let v638 : BitVec 32 := Scalar.select v636 v637 v631
  let c1_i32_435 : BitVec 32 := 1#32
  let v640 : BitVec 32 := Scalar.muli v638 c1_i32_435
  let v641 : BitVec 32 := Scalar.addi c0_i32_436 v640
  v641.toNat
def k0_dev43 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_440 : BitVec 32 := 12#32
  let v649 : BitVec 32 := Scalar.addi v2 c12_i32_440
  let c32_i32_441 : BitVec 32 := 32#32
  let c0_i32_442 : BitVec 32 := 0#32
  let v650 : BitVec 1 := Scalar.cmpi .eq c32_i32_441 c0_i32_442
  let c1_i32_443 : BitVec 32 := 1#32
  let v651 : BitVec 32 := Scalar.select v650 c1_i32_443 c32_i32_441
  let v652 : BitVec 32 := Scalar.remsi v649 v651
  let c0_i32_445 : BitVec 32 := 0#32
  let v654 : BitVec 1 := Scalar.cmpi .slt v652 c0_i32_445
  let c0_i32_446 : BitVec 32 := 0#32
  let v655 : BitVec 1 := Scalar.cmpi .slt v651 c0_i32_446
  let v656 : BitVec 1 := Scalar.xori v654 v655
  let c0_i32_444 : BitVec 32 := 0#32
  let v653 : BitVec 1 := Scalar.cmpi .ne v652 c0_i32_444
  let v657 : BitVec 1 := Scalar.andi v656 v653
  let v658 : BitVec 32 := Scalar.addi v652 v651
  let v659 : BitVec 32 := Scalar.select v657 v658 v652
  let c1_i32_449 : BitVec 32 := 1#32
  let v661 : BitVec 32 := Scalar.muli v659 c1_i32_449
  let v662 : BitVec 32 := Scalar.addi c0_i32_450 v661
  v662.toNat
def k0_dev44 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_454 : BitVec 32 := 13#32
  let v670 : BitVec 32 := Scalar.addi v2 c13_i32_454
  let c32_i32_455 : BitVec 32 := 32#32
  let c0_i32_456 : BitVec 32 := 0#32
  let v671 : BitVec 1 := Scalar.cmpi .eq c32_i32_455 c0_i32_456
  let c1_i32_457 : BitVec 32 := 1#32
  let v672 : BitVec 32 := Scalar.select v671 c1_i32_457 c32_i32_455
  let v673 : BitVec 32 := Scalar.remsi v670 v672
  let c0_i32_459 : BitVec 32 := 0#32
  let v675 : BitVec 1 := Scalar.cmpi .slt v673 c0_i32_459
  let c0_i32_460 : BitVec 32 := 0#32
  let v676 : BitVec 1 := Scalar.cmpi .slt v672 c0_i32_460
  let v677 : BitVec 1 := Scalar.xori v675 v676
  let c0_i32_458 : BitVec 32 := 0#32
  let v674 : BitVec 1 := Scalar.cmpi .ne v673 c0_i32_458
  let v678 : BitVec 1 := Scalar.andi v677 v674
  let v679 : BitVec 32 := Scalar.addi v673 v672
  let v680 : BitVec 32 := Scalar.select v678 v679 v673
  let c1_i32_463 : BitVec 32 := 1#32
  let v682 : BitVec 32 := Scalar.muli v680 c1_i32_463
  let v683 : BitVec 32 := Scalar.addi c0_i32_464 v682
  v683.toNat
def k0_dev45 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_468 : BitVec 32 := 14#32
  let v691 : BitVec 32 := Scalar.addi v2 c14_i32_468
  let c32_i32_469 : BitVec 32 := 32#32
  let c0_i32_470 : BitVec 32 := 0#32
  let v692 : BitVec 1 := Scalar.cmpi .eq c32_i32_469 c0_i32_470
  let c1_i32_471 : BitVec 32 := 1#32
  let v693 : BitVec 32 := Scalar.select v692 c1_i32_471 c32_i32_469
  let v694 : BitVec 32 := Scalar.remsi v691 v693
  let c0_i32_473 : BitVec 32 := 0#32
  let v696 : BitVec 1 := Scalar.cmpi .slt v694 c0_i32_473
  let c0_i32_474 : BitVec 32 := 0#32
  let v697 : BitVec 1 := Scalar.cmpi .slt v693 c0_i32_474
  let v698 : BitVec 1 := Scalar.xori v696 v697
  let c0_i32_472 : BitVec 32 := 0#32
  let v695 : BitVec 1 := Scalar.cmpi .ne v694 c0_i32_472
  let v699 : BitVec 1 := Scalar.andi v698 v695
  let v700 : BitVec 32 := Scalar.addi v694 v693
  let v701 : BitVec 32 := Scalar.select v699 v700 v694
  let c1_i32_477 : BitVec 32 := 1#32
  let v703 : BitVec 32 := Scalar.muli v701 c1_i32_477
  let v704 : BitVec 32 := Scalar.addi c0_i32_478 v703
  v704.toNat
def k0_dev46 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_482 : BitVec 32 := 15#32
  let v712 : BitVec 32 := Scalar.addi v2 c15_i32_482
  let c32_i32_483 : BitVec 32 := 32#32
  let c0_i32_484 : BitVec 32 := 0#32
  let v713 : BitVec 1 := Scalar.cmpi .eq c32_i32_483 c0_i32_484
  let c1_i32_485 : BitVec 32 := 1#32
  let v714 : BitVec 32 := Scalar.select v713 c1_i32_485 c32_i32_483
  let v715 : BitVec 32 := Scalar.remsi v712 v714
  let c0_i32_487 : BitVec 32 := 0#32
  let v717 : BitVec 1 := Scalar.cmpi .slt v715 c0_i32_487
  let c0_i32_488 : BitVec 32 := 0#32
  let v718 : BitVec 1 := Scalar.cmpi .slt v714 c0_i32_488
  let v719 : BitVec 1 := Scalar.xori v717 v718
  let c0_i32_486 : BitVec 32 := 0#32
  let v716 : BitVec 1 := Scalar.cmpi .ne v715 c0_i32_486
  let v720 : BitVec 1 := Scalar.andi v719 v716
  let v721 : BitVec 32 := Scalar.addi v715 v714
  let v722 : BitVec 32 := Scalar.select v720 v721 v715
  let c1_i32_491 : BitVec 32 := 1#32
  let v724 : BitVec 32 := Scalar.muli v722 c1_i32_491
  let v725 : BitVec 32 := Scalar.addi c0_i32_492 v724
  v725.toNat
def k0_dev47 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_496 : BitVec 32 := 16#32
  let v733 : BitVec 32 := Scalar.addi v2 c16_i32_496
  let c32_i32_497 : BitVec 32 := 32#32
  let c0_i32_498 : BitVec 32 := 0#32
  let v734 : BitVec 1 := Scalar.cmpi .eq c32_i32_497 c0_i32_498
  let c1_i32_499 : BitVec 32 := 1#32
  let v735 : BitVec 32 := Scalar.select v734 c1_i32_499 c32_i32_497
  let v736 : BitVec 32 := Scalar.remsi v733 v735
  let c0_i32_501 : BitVec 32 := 0#32
  let v738 : BitVec 1 := Scalar.cmpi .slt v736 c0_i32_501
  let c0_i32_502 : BitVec 32 := 0#32
  let v739 : BitVec 1 := Scalar.cmpi .slt v735 c0_i32_502
  let v740 : BitVec 1 := Scalar.xori v738 v739
  let c0_i32_500 : BitVec 32 := 0#32
  let v737 : BitVec 1 := Scalar.cmpi .ne v736 c0_i32_500
  let v741 : BitVec 1 := Scalar.andi v740 v737
  let v742 : BitVec 32 := Scalar.addi v736 v735
  let v743 : BitVec 32 := Scalar.select v741 v742 v736
  let c1_i32_505 : BitVec 32 := 1#32
  let v745 : BitVec 32 := Scalar.muli v743 c1_i32_505
  let v746 : BitVec 32 := Scalar.addi c0_i32_506 v745
  v746.toNat
def k0_dev48 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_510 : BitVec 32 := 17#32
  let v754 : BitVec 32 := Scalar.addi v2 c17_i32_510
  let c32_i32_511 : BitVec 32 := 32#32
  let c0_i32_512 : BitVec 32 := 0#32
  let v755 : BitVec 1 := Scalar.cmpi .eq c32_i32_511 c0_i32_512
  let c1_i32_513 : BitVec 32 := 1#32
  let v756 : BitVec 32 := Scalar.select v755 c1_i32_513 c32_i32_511
  let v757 : BitVec 32 := Scalar.remsi v754 v756
  let c0_i32_515 : BitVec 32 := 0#32
  let v759 : BitVec 1 := Scalar.cmpi .slt v757 c0_i32_515
  let c0_i32_516 : BitVec 32 := 0#32
  let v760 : BitVec 1 := Scalar.cmpi .slt v756 c0_i32_516
  let v761 : BitVec 1 := Scalar.xori v759 v760
  let c0_i32_514 : BitVec 32 := 0#32
  let v758 : BitVec 1 := Scalar.cmpi .ne v757 c0_i32_514
  let v762 : BitVec 1 := Scalar.andi v761 v758
  let v763 : BitVec 32 := Scalar.addi v757 v756
  let v764 : BitVec 32 := Scalar.select v762 v763 v757
  let c1_i32_519 : BitVec 32 := 1#32
  let v766 : BitVec 32 := Scalar.muli v764 c1_i32_519
  let v767 : BitVec 32 := Scalar.addi c0_i32_520 v766
  v767.toNat
def k0_dev49 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_524 : BitVec 32 := 18#32
  let v775 : BitVec 32 := Scalar.addi v2 c18_i32_524
  let c32_i32_525 : BitVec 32 := 32#32
  let c0_i32_526 : BitVec 32 := 0#32
  let v776 : BitVec 1 := Scalar.cmpi .eq c32_i32_525 c0_i32_526
  let c1_i32_527 : BitVec 32 := 1#32
  let v777 : BitVec 32 := Scalar.select v776 c1_i32_527 c32_i32_525
  let v778 : BitVec 32 := Scalar.remsi v775 v777
  let c0_i32_529 : BitVec 32 := 0#32
  let v780 : BitVec 1 := Scalar.cmpi .slt v778 c0_i32_529
  let c0_i32_530 : BitVec 32 := 0#32
  let v781 : BitVec 1 := Scalar.cmpi .slt v777 c0_i32_530
  let v782 : BitVec 1 := Scalar.xori v780 v781
  let c0_i32_528 : BitVec 32 := 0#32
  let v779 : BitVec 1 := Scalar.cmpi .ne v778 c0_i32_528
  let v783 : BitVec 1 := Scalar.andi v782 v779
  let v784 : BitVec 32 := Scalar.addi v778 v777
  let v785 : BitVec 32 := Scalar.select v783 v784 v778
  let c1_i32_533 : BitVec 32 := 1#32
  let v787 : BitVec 32 := Scalar.muli v785 c1_i32_533
  let v788 : BitVec 32 := Scalar.addi c0_i32_534 v787
  v788.toNat
def k0_dev50 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_538 : BitVec 32 := 19#32
  let v796 : BitVec 32 := Scalar.addi v2 c19_i32_538
  let c32_i32_539 : BitVec 32 := 32#32
  let c0_i32_540 : BitVec 32 := 0#32
  let v797 : BitVec 1 := Scalar.cmpi .eq c32_i32_539 c0_i32_540
  let c1_i32_541 : BitVec 32 := 1#32
  let v798 : BitVec 32 := Scalar.select v797 c1_i32_541 c32_i32_539
  let v799 : BitVec 32 := Scalar.remsi v796 v798
  let c0_i32_543 : BitVec 32 := 0#32
  let v801 : BitVec 1 := Scalar.cmpi .slt v799 c0_i32_543
  let c0_i32_544 : BitVec 32 := 0#32
  let v802 : BitVec 1 := Scalar.cmpi .slt v798 c0_i32_544
  let v803 : BitVec 1 := Scalar.xori v801 v802
  let c0_i32_542 : BitVec 32 := 0#32
  let v800 : BitVec 1 := Scalar.cmpi .ne v799 c0_i32_542
  let v804 : BitVec 1 := Scalar.andi v803 v800
  let v805 : BitVec 32 := Scalar.addi v799 v798
  let v806 : BitVec 32 := Scalar.select v804 v805 v799
  let c1_i32_547 : BitVec 32 := 1#32
  let v808 : BitVec 32 := Scalar.muli v806 c1_i32_547
  let v809 : BitVec 32 := Scalar.addi c0_i32_548 v808
  v809.toNat
def k0_dev51 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_552 : BitVec 32 := 20#32
  let v817 : BitVec 32 := Scalar.addi v2 c20_i32_552
  let c32_i32_553 : BitVec 32 := 32#32
  let c0_i32_554 : BitVec 32 := 0#32
  let v818 : BitVec 1 := Scalar.cmpi .eq c32_i32_553 c0_i32_554
  let c1_i32_555 : BitVec 32 := 1#32
  let v819 : BitVec 32 := Scalar.select v818 c1_i32_555 c32_i32_553
  let v820 : BitVec 32 := Scalar.remsi v817 v819
  let c0_i32_557 : BitVec 32 := 0#32
  let v822 : BitVec 1 := Scalar.cmpi .slt v820 c0_i32_557
  let c0_i32_558 : BitVec 32 := 0#32
  let v823 : BitVec 1 := Scalar.cmpi .slt v819 c0_i32_558
  let v824 : BitVec 1 := Scalar.xori v822 v823
  let c0_i32_556 : BitVec 32 := 0#32
  let v821 : BitVec 1 := Scalar.cmpi .ne v820 c0_i32_556
  let v825 : BitVec 1 := Scalar.andi v824 v821
  let v826 : BitVec 32 := Scalar.addi v820 v819
  let v827 : BitVec 32 := Scalar.select v825 v826 v820
  let c1_i32_561 : BitVec 32 := 1#32
  let v829 : BitVec 32 := Scalar.muli v827 c1_i32_561
  let v830 : BitVec 32 := Scalar.addi c0_i32_562 v829
  v830.toNat
def k0_dev52 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_566 : BitVec 32 := 21#32
  let v838 : BitVec 32 := Scalar.addi v2 c21_i32_566
  let c32_i32_567 : BitVec 32 := 32#32
  let c0_i32_568 : BitVec 32 := 0#32
  let v839 : BitVec 1 := Scalar.cmpi .eq c32_i32_567 c0_i32_568
  let c1_i32_569 : BitVec 32 := 1#32
  let v840 : BitVec 32 := Scalar.select v839 c1_i32_569 c32_i32_567
  let v841 : BitVec 32 := Scalar.remsi v838 v840
  let c0_i32_571 : BitVec 32 := 0#32
  let v843 : BitVec 1 := Scalar.cmpi .slt v841 c0_i32_571
  let c0_i32_572 : BitVec 32 := 0#32
  let v844 : BitVec 1 := Scalar.cmpi .slt v840 c0_i32_572
  let v845 : BitVec 1 := Scalar.xori v843 v844
  let c0_i32_570 : BitVec 32 := 0#32
  let v842 : BitVec 1 := Scalar.cmpi .ne v841 c0_i32_570
  let v846 : BitVec 1 := Scalar.andi v845 v842
  let v847 : BitVec 32 := Scalar.addi v841 v840
  let v848 : BitVec 32 := Scalar.select v846 v847 v841
  let c1_i32_575 : BitVec 32 := 1#32
  let v850 : BitVec 32 := Scalar.muli v848 c1_i32_575
  let v851 : BitVec 32 := Scalar.addi c0_i32_576 v850
  v851.toNat
def k0_dev53 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_580 : BitVec 32 := 22#32
  let v859 : BitVec 32 := Scalar.addi v2 c22_i32_580
  let c32_i32_581 : BitVec 32 := 32#32
  let c0_i32_582 : BitVec 32 := 0#32
  let v860 : BitVec 1 := Scalar.cmpi .eq c32_i32_581 c0_i32_582
  let c1_i32_583 : BitVec 32 := 1#32
  let v861 : BitVec 32 := Scalar.select v860 c1_i32_583 c32_i32_581
  let v862 : BitVec 32 := Scalar.remsi v859 v861
  let c0_i32_585 : BitVec 32 := 0#32
  let v864 : BitVec 1 := Scalar.cmpi .slt v862 c0_i32_585
  let c0_i32_586 : BitVec 32 := 0#32
  let v865 : BitVec 1 := Scalar.cmpi .slt v861 c0_i32_586
  let v866 : BitVec 1 := Scalar.xori v864 v865
  let c0_i32_584 : BitVec 32 := 0#32
  let v863 : BitVec 1 := Scalar.cmpi .ne v862 c0_i32_584
  let v867 : BitVec 1 := Scalar.andi v866 v863
  let v868 : BitVec 32 := Scalar.addi v862 v861
  let v869 : BitVec 32 := Scalar.select v867 v868 v862
  let c1_i32_589 : BitVec 32 := 1#32
  let v871 : BitVec 32 := Scalar.muli v869 c1_i32_589
  let v872 : BitVec 32 := Scalar.addi c0_i32_590 v871
  v872.toNat
def k0_dev54 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_594 : BitVec 32 := 23#32
  let v880 : BitVec 32 := Scalar.addi v2 c23_i32_594
  let c32_i32_595 : BitVec 32 := 32#32
  let c0_i32_596 : BitVec 32 := 0#32
  let v881 : BitVec 1 := Scalar.cmpi .eq c32_i32_595 c0_i32_596
  let c1_i32_597 : BitVec 32 := 1#32
  let v882 : BitVec 32 := Scalar.select v881 c1_i32_597 c32_i32_595
  let v883 : BitVec 32 := Scalar.remsi v880 v882
  let c0_i32_599 : BitVec 32 := 0#32
  let v885 : BitVec 1 := Scalar.cmpi .slt v883 c0_i32_599
  let c0_i32_600 : BitVec 32 := 0#32
  let v886 : BitVec 1 := Scalar.cmpi .slt v882 c0_i32_600
  let v887 : BitVec 1 := Scalar.xori v885 v886
  let c0_i32_598 : BitVec 32 := 0#32
  let v884 : BitVec 1 := Scalar.cmpi .ne v883 c0_i32_598
  let v888 : BitVec 1 := Scalar.andi v887 v884
  let v889 : BitVec 32 := Scalar.addi v883 v882
  let v890 : BitVec 32 := Scalar.select v888 v889 v883
  let c1_i32_603 : BitVec 32 := 1#32
  let v892 : BitVec 32 := Scalar.muli v890 c1_i32_603
  let v893 : BitVec 32 := Scalar.addi c0_i32_604 v892
  v893.toNat
def k0_dev55 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_608 : BitVec 32 := 24#32
  let v901 : BitVec 32 := Scalar.addi v2 c24_i32_608
  let c32_i32_609 : BitVec 32 := 32#32
  let c0_i32_610 : BitVec 32 := 0#32
  let v902 : BitVec 1 := Scalar.cmpi .eq c32_i32_609 c0_i32_610
  let c1_i32_611 : BitVec 32 := 1#32
  let v903 : BitVec 32 := Scalar.select v902 c1_i32_611 c32_i32_609
  let v904 : BitVec 32 := Scalar.remsi v901 v903
  let c0_i32_613 : BitVec 32 := 0#32
  let v906 : BitVec 1 := Scalar.cmpi .slt v904 c0_i32_613
  let c0_i32_614 : BitVec 32 := 0#32
  let v907 : BitVec 1 := Scalar.cmpi .slt v903 c0_i32_614
  let v908 : BitVec 1 := Scalar.xori v906 v907
  let c0_i32_612 : BitVec 32 := 0#32
  let v905 : BitVec 1 := Scalar.cmpi .ne v904 c0_i32_612
  let v909 : BitVec 1 := Scalar.andi v908 v905
  let v910 : BitVec 32 := Scalar.addi v904 v903
  let v911 : BitVec 32 := Scalar.select v909 v910 v904
  let c1_i32_617 : BitVec 32 := 1#32
  let v913 : BitVec 32 := Scalar.muli v911 c1_i32_617
  let v914 : BitVec 32 := Scalar.addi c0_i32_618 v913
  v914.toNat
def k0_dev56 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_622 : BitVec 32 := 25#32
  let v922 : BitVec 32 := Scalar.addi v2 c25_i32_622
  let c32_i32_623 : BitVec 32 := 32#32
  let c0_i32_624 : BitVec 32 := 0#32
  let v923 : BitVec 1 := Scalar.cmpi .eq c32_i32_623 c0_i32_624
  let c1_i32_625 : BitVec 32 := 1#32
  let v924 : BitVec 32 := Scalar.select v923 c1_i32_625 c32_i32_623
  let v925 : BitVec 32 := Scalar.remsi v922 v924
  let c0_i32_627 : BitVec 32 := 0#32
  let v927 : BitVec 1 := Scalar.cmpi .slt v925 c0_i32_627
  let c0_i32_628 : BitVec 32 := 0#32
  let v928 : BitVec 1 := Scalar.cmpi .slt v924 c0_i32_628
  let v929 : BitVec 1 := Scalar.xori v927 v928
  let c0_i32_626 : BitVec 32 := 0#32
  let v926 : BitVec 1 := Scalar.cmpi .ne v925 c0_i32_626
  let v930 : BitVec 1 := Scalar.andi v929 v926
  let v931 : BitVec 32 := Scalar.addi v925 v924
  let v932 : BitVec 32 := Scalar.select v930 v931 v925
  let c1_i32_631 : BitVec 32 := 1#32
  let v934 : BitVec 32 := Scalar.muli v932 c1_i32_631
  let v935 : BitVec 32 := Scalar.addi c0_i32_632 v934
  v935.toNat
def k0_dev57 (d0 : Dev nD) : Nat :=
  let c0_i32_646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_636 : BitVec 32 := 26#32
  let v943 : BitVec 32 := Scalar.addi v2 c26_i32_636
  let c32_i32_637 : BitVec 32 := 32#32
  let c0_i32_638 : BitVec 32 := 0#32
  let v944 : BitVec 1 := Scalar.cmpi .eq c32_i32_637 c0_i32_638
  let c1_i32_639 : BitVec 32 := 1#32
  let v945 : BitVec 32 := Scalar.select v944 c1_i32_639 c32_i32_637
  let v946 : BitVec 32 := Scalar.remsi v943 v945
  let c0_i32_641 : BitVec 32 := 0#32
  let v948 : BitVec 1 := Scalar.cmpi .slt v946 c0_i32_641
  let c0_i32_642 : BitVec 32 := 0#32
  let v949 : BitVec 1 := Scalar.cmpi .slt v945 c0_i32_642
  let v950 : BitVec 1 := Scalar.xori v948 v949
  let c0_i32_640 : BitVec 32 := 0#32
  let v947 : BitVec 1 := Scalar.cmpi .ne v946 c0_i32_640
  let v951 : BitVec 1 := Scalar.andi v950 v947
  let v952 : BitVec 32 := Scalar.addi v946 v945
  let v953 : BitVec 32 := Scalar.select v951 v952 v946
  let c1_i32_645 : BitVec 32 := 1#32
  let v955 : BitVec 32 := Scalar.muli v953 c1_i32_645
  let v956 : BitVec 32 := Scalar.addi c0_i32_646 v955
  v956.toNat
def k0_dev58 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_650 : BitVec 32 := 27#32
  let v964 : BitVec 32 := Scalar.addi v2 c27_i32_650
  let c32_i32_651 : BitVec 32 := 32#32
  let c0_i32_652 : BitVec 32 := 0#32
  let v965 : BitVec 1 := Scalar.cmpi .eq c32_i32_651 c0_i32_652
  let c1_i32_653 : BitVec 32 := 1#32
  let v966 : BitVec 32 := Scalar.select v965 c1_i32_653 c32_i32_651
  let v967 : BitVec 32 := Scalar.remsi v964 v966
  let c0_i32_655 : BitVec 32 := 0#32
  let v969 : BitVec 1 := Scalar.cmpi .slt v967 c0_i32_655
  let c0_i32_656 : BitVec 32 := 0#32
  let v970 : BitVec 1 := Scalar.cmpi .slt v966 c0_i32_656
  let v971 : BitVec 1 := Scalar.xori v969 v970
  let c0_i32_654 : BitVec 32 := 0#32
  let v968 : BitVec 1 := Scalar.cmpi .ne v967 c0_i32_654
  let v972 : BitVec 1 := Scalar.andi v971 v968
  let v973 : BitVec 32 := Scalar.addi v967 v966
  let v974 : BitVec 32 := Scalar.select v972 v973 v967
  let c1_i32_659 : BitVec 32 := 1#32
  let v976 : BitVec 32 := Scalar.muli v974 c1_i32_659
  let v977 : BitVec 32 := Scalar.addi c0_i32_660 v976
  v977.toNat
def k0_dev59 (d0 : Dev nD) : Nat :=
  let c0_i32_674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_664 : BitVec 32 := 28#32
  let v985 : BitVec 32 := Scalar.addi v2 c28_i32_664
  let c32_i32_665 : BitVec 32 := 32#32
  let c0_i32_666 : BitVec 32 := 0#32
  let v986 : BitVec 1 := Scalar.cmpi .eq c32_i32_665 c0_i32_666
  let c1_i32_667 : BitVec 32 := 1#32
  let v987 : BitVec 32 := Scalar.select v986 c1_i32_667 c32_i32_665
  let v988 : BitVec 32 := Scalar.remsi v985 v987
  let c0_i32_669 : BitVec 32 := 0#32
  let v990 : BitVec 1 := Scalar.cmpi .slt v988 c0_i32_669
  let c0_i32_670 : BitVec 32 := 0#32
  let v991 : BitVec 1 := Scalar.cmpi .slt v987 c0_i32_670
  let v992 : BitVec 1 := Scalar.xori v990 v991
  let c0_i32_668 : BitVec 32 := 0#32
  let v989 : BitVec 1 := Scalar.cmpi .ne v988 c0_i32_668
  let v993 : BitVec 1 := Scalar.andi v992 v989
  let v994 : BitVec 32 := Scalar.addi v988 v987
  let v995 : BitVec 32 := Scalar.select v993 v994 v988
  let c1_i32_673 : BitVec 32 := 1#32
  let v997 : BitVec 32 := Scalar.muli v995 c1_i32_673
  let v998 : BitVec 32 := Scalar.addi c0_i32_674 v997
  v998.toNat
def k0_dev60 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_678 : BitVec 32 := 29#32
  let v1006 : BitVec 32 := Scalar.addi v2 c29_i32_678
  let c32_i32_679 : BitVec 32 := 32#32
  let c0_i32_680 : BitVec 32 := 0#32
  let v1007 : BitVec 1 := Scalar.cmpi .eq c32_i32_679 c0_i32_680
  let c1_i32_681 : BitVec 32 := 1#32
  let v1008 : BitVec 32 := Scalar.select v1007 c1_i32_681 c32_i32_679
  let v1009 : BitVec 32 := Scalar.remsi v1006 v1008
  let c0_i32_683 : BitVec 32 := 0#32
  let v1011 : BitVec 1 := Scalar.cmpi .slt v1009 c0_i32_683
  let c0_i32_684 : BitVec 32 := 0#32
  let v1012 : BitVec 1 := Scalar.cmpi .slt v1008 c0_i32_684
  let v1013 : BitVec 1 := Scalar.xori v1011 v1012
  let c0_i32_682 : BitVec 32 := 0#32
  let v1010 : BitVec 1 := Scalar.cmpi .ne v1009 c0_i32_682
  let v1014 : BitVec 1 := Scalar.andi v1013 v1010
  let v1015 : BitVec 32 := Scalar.addi v1009 v1008
  let v1016 : BitVec 32 := Scalar.select v1014 v1015 v1009
  let c1_i32_687 : BitVec 32 := 1#32
  let v1018 : BitVec 32 := Scalar.muli v1016 c1_i32_687
  let v1019 : BitVec 32 := Scalar.addi c0_i32_688 v1018
  v1019.toNat
def k0_dev61 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_692 : BitVec 32 := 30#32
  let v1027 : BitVec 32 := Scalar.addi v2 c30_i32_692
  let c32_i32_693 : BitVec 32 := 32#32
  let c0_i32_694 : BitVec 32 := 0#32
  let v1028 : BitVec 1 := Scalar.cmpi .eq c32_i32_693 c0_i32_694
  let c1_i32_695 : BitVec 32 := 1#32
  let v1029 : BitVec 32 := Scalar.select v1028 c1_i32_695 c32_i32_693
  let v1030 : BitVec 32 := Scalar.remsi v1027 v1029
  let c0_i32_697 : BitVec 32 := 0#32
  let v1032 : BitVec 1 := Scalar.cmpi .slt v1030 c0_i32_697
  let c0_i32_698 : BitVec 32 := 0#32
  let v1033 : BitVec 1 := Scalar.cmpi .slt v1029 c0_i32_698
  let v1034 : BitVec 1 := Scalar.xori v1032 v1033
  let c0_i32_696 : BitVec 32 := 0#32
  let v1031 : BitVec 1 := Scalar.cmpi .ne v1030 c0_i32_696
  let v1035 : BitVec 1 := Scalar.andi v1034 v1031
  let v1036 : BitVec 32 := Scalar.addi v1030 v1029
  let v1037 : BitVec 32 := Scalar.select v1035 v1036 v1030
  let c1_i32_701 : BitVec 32 := 1#32
  let v1039 : BitVec 32 := Scalar.muli v1037 c1_i32_701
  let v1040 : BitVec 32 := Scalar.addi c0_i32_702 v1039
  v1040.toNat
def k0_dev62 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_706 : BitVec 32 := 31#32
  let v1048 : BitVec 32 := Scalar.addi v2 c31_i32_706
  let c32_i32_707 : BitVec 32 := 32#32
  let c0_i32_708 : BitVec 32 := 0#32
  let v1049 : BitVec 1 := Scalar.cmpi .eq c32_i32_707 c0_i32_708
  let c1_i32_709 : BitVec 32 := 1#32
  let v1050 : BitVec 32 := Scalar.select v1049 c1_i32_709 c32_i32_707
  let v1051 : BitVec 32 := Scalar.remsi v1048 v1050
  let c0_i32_711 : BitVec 32 := 0#32
  let v1053 : BitVec 1 := Scalar.cmpi .slt v1051 c0_i32_711
  let c0_i32_712 : BitVec 32 := 0#32
  let v1054 : BitVec 1 := Scalar.cmpi .slt v1050 c0_i32_712
  let v1055 : BitVec 1 := Scalar.xori v1053 v1054
  let c0_i32_710 : BitVec 32 := 0#32
  let v1052 : BitVec 1 := Scalar.cmpi .ne v1051 c0_i32_710
  let v1056 : BitVec 1 := Scalar.andi v1055 v1052
  let v1057 : BitVec 32 := Scalar.addi v1051 v1050
  let v1058 : BitVec 32 := Scalar.select v1056 v1057 v1051
  let c1_i32_715 : BitVec 32 := 1#32
  let v1060 : BitVec 32 := Scalar.muli v1058 c1_i32_715
  let v1061 : BitVec 32 := Scalar.addi c0_i32_716 v1060
  v1061.toNat
abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Compact.lean ====
/- The kernel's body in short. The printed body of `entered` spells out its 31 signals, its 31 sends, its 32 receives and
   its 31 closing waits one after the other; here each run of them is a loop over a list of turns, and the printed body is
   shown to be these loops (`cc0_body_eq`). Everything later speaks of the loops. -/
module

public import proofs.«01_k».proof.Proof.Gen.EnteredIdeal

@[expose] public section

set_option maxRecDepth 16384
set_option synthInstance.maxSize 4096

noncomputable section

namespace Cert.Entered.Proof

open Idealize.ShloMosaic Idealize.SL.Sem
open Cert.EnteredIdeal Cert.EnteredIdeal.Gen

variable {F : FTy → Type} [FloatOps F]

/-! ## The devices and places a turn names -/

/-- The device `w` places after `c` on the ring, by the integer operations the kernel computes it with. -/
def after (c : Dev nD) (w : BitVec 32) : Nat :=
  let v2 : BitVec 32 := Scalar.remsi (Scalar.divsi (Dev.word c) 1#32) 32#32
  let v4 : BitVec 32 := Scalar.addi v2 w
  let v6 : BitVec 32 := Scalar.select (Scalar.cmpi .eq 32#32 0#32) 1#32 32#32
  let v7 : BitVec 32 := Scalar.remsi v4 v6
  let v12 : BitVec 1 := Scalar.andi (Scalar.xori (Scalar.cmpi .slt v7 0#32) (Scalar.cmpi .slt v6 0#32)) (Scalar.cmpi .ne v7 0#32)
  let v14 : BitVec 32 := Scalar.select v12 (Scalar.addi v7 v6) v7
  (Scalar.addi 0#32 (Scalar.muli v14 1#32)).toNat

theorem after_lt : ∀ (c : Dev nD) (r : Fin 31), after c (BitVec.ofNat 32 (1 + r.val)) < nD := by decide +kernel

/-- The device turn `r` of device `c` speaks to. -/
def peer (c : Dev nD) (r : Fin 31) : Dev nD := ⟨after c (BitVec.ofNat 32 (1 + r.val)), after_lt c r⟩

/-- The regular semaphore the devices announce themselves on. -/
abbrev barS : Sem sig := (SemArray.scalar (sig.barrier 0 rfl) : Sems sig S_).sem

/-- The kernel's own scratch: the copy of the operand it sends from, and the slots it receives into. -/
abbrev xbf : Memref sig .tc .vmem S2048x64 .bf16 := Memref.whole cc0_scratch0
abbrev xg : Memref sig .tc .vmem S32x64x64 .bf16 := Memref.whole cc0_scratch1

theorem hxbf : xbf.IsWhole := Memref.isWhole_whole _
theorem hxg : xg.IsWhole := Memref.isWhole_whole _

/-- Row block `t` of the copy, by the offsets a turn computes: this device's own rows, and turn `r`'s. -/
abbrev ownRows (c : Dev nD) : Memref sig .tc .vmem S64x64 .bf16 :=
  xbf.slice (Rect.unit (s := S2048x64) (k0_off3 c) S64x64.size (k0_off3_inb c)) (fun _ => rfl)
abbrev sentRows (c : Dev nD) (r : Fin 31) : Memref sig .tc .vmem S64x64 .bf16 :=
  xbf.slice (Rect.unit (s := S2048x64) (k0_off4 c (BitVec.ofNat 32 (1 + r.val))) S64x64.size (k0_off4_inb c r)) (fun _ => rfl)
/-- The first rows of the copy, which a receive names for the size of what it waits for. -/
abbrev someRows : Memref sig .tc .vmem S64x64 .bf16 :=
  xbf.slice (Rect.unit (s := S2048x64) ![0, 0] S64x64.size inb_S2048x64_S64x64_0_0) (fun _ => rfl)
/-- The slot a device's own number names: where it puts its block, here or on another device. -/
abbrev ownSlot (c : Dev nD) : Memref sig .tc .vmem S64x64 .bf16 :=
  (xg.slice (Rect.unit (s := S32x64x64) (k0_off2 c) S1x64x64.size (k0_off2_inb c)) (fun _ => rfl)).squeeze S64x64 squeezes_S1x64x64_S64x64

theorem slot_inb : ∀ (s : Fin 32) a, (![s.val, 0, 0] : Fin 3 → Nat) a + S1x64x64.size a ≤ S32x64x64.size a := by decide
theorem sem_inb : ∀ (s : Fin 32) a, (![s.val] : Fin 1 → Nat) a + S1.size a ≤ S32.size a := by decide
theorem turn_inb : ∀ (r : Fin 31) a, (![1 + r.val] : Fin 1 → Nat) a + S1.size a ≤ S32.size a := by decide
theorem w_inb : ∀ (s : Fin 32) a, (![64 * s.val, 0] : Fin 2 → Nat) a + S64x2048.size a ≤ S2048x2048.size a := by decide
theorem slot_words : ∀ s : Fin 32, (Rect.unit (s := S32x64x64) ![s.val, 0, 0] S1x64x64.size (slot_inb s)).WholeWords (EltTy.packing .bf16) := by
  decide +kernel

abbrev slotRect (s : Fin 32) := Rect.unit (s := S32x64x64) ![s.val, 0, 0] S1x64x64.size (slot_inb s)
abbrev wRect (s : Fin 32) := Rect.unit (s := S2048x2048) ![64 * s.val, 0] S64x2048.size (w_inb s)
abbrev slot (s : Fin 32) : Memref sig .tc .vmem S64x64 .bf16 :=
  (xg.slice (slotRect s) (fun _ => rfl)).squeeze S64x64 squeezes_S1x64x64_S64x64

/-- The semaphores: turn `r`'s sends, what arrives in slot `s`, what goes into the slot of a device's own number. -/
abbrev sendS (r : Fin 31) : DmaSem sig := ((cc0_scratch2.slice (Rect.unit (s := S32) ![1 + r.val] S1.size (turn_inb r))).squeeze S_ squeezes_S1_S_).sem
abbrev recvS (s : Fin 32) : DmaSem sig := ((cc0_scratch3.slice (Rect.unit (s := S32) ![s.val] S1.size (sem_inb s))).squeeze S_ squeezes_S1_S_).sem
abbrev ownS (c : Dev nD) : DmaSem sig := ((cc0_scratch3.slice (Rect.unit (s := S32) (k0_off1 c) S1.size (k0_off1_inb c))).squeeze S_ squeezes_S1_S_).sem

/-! ## The loops -/

/-- The programs of the kernel's thread. -/
abbrev P (F : FTy → Type) [FloatOps F] (α : Type) := Prog (TpuEff nD τ sig (Elt F) Λ₀ .tc) α

/-- Announce this device to the peers of the turns `l`, then go on as `k`. -/
def announce (c : Dev nD) (l : List (Fin 31)) (k : P F PUnit) : P F PUnit :=
  l.foldr (fun r k => .op (.semSignal (Dev.tc (peer c r)) barS (1#32).toInt) fun _ => k) k

/-- Send each turn's rows to its peer, into the slot of this device's number. -/
def sendAll (c : Dev nD) (l : List (Fin 31)) (k : P F PUnit) : P F PUnit :=
  l.foldr (fun r k => .op (.enqueueDma (sentRows c r) (.remote (Dev.tc (peer c r)) (ownSlot c) (.dma (sendS r))) (.dma (ownS c))
    (hxbf.wordExact_slice rfl _ (k0_off4_wordsbf16 c r)) ((hxg.wordExact_slice rfl _ (k0_off2_wordsbf16 c)).reshape _ _)
    ⟨⟨rfl, Or.inl rfl⟩, trivial⟩) fun _ => k) k

/-- One receive's contribution: the block received times the rows of the weights it belongs to. -/
def addTurn (acc : FVec F S64x2048 .f32) (b : Vec F S1x64x64 .bf16) (w : Vec F S64x2048 .bf16) : FVec F S64x2048 .f32 :=
  addf acc (matmul dot_S64x64_S64x2048_S64x2048_1_0_0_1_n_n none (shapeCast S64x64 b shapeCasts_S1x64x64_S64x64)
    (shapeCast S64x2048 w shapeCasts_S64x2048_S64x2048) (constant S64x2048 .f32 0x00000000#32))

/-- Wait for each slot in turn and add its contribution; go on with the sum. -/
def recvAll (arg1 : Memref sig .tc .vmem S2048x2048 .bf16) (l : List (Fin 32)) (k : FVec F S64x2048 .f32 → P F PUnit) :
    FVec F S64x2048 .f32 → P F PUnit :=
  l.foldr (fun s k acc =>
    .op (.waitDma2 (recvS s) someRows (slot s) (hxbf.wordExact_slice rfl _ wordsbf16_S2048x64_S64x64_0_0)
      ((hxg.wordExact_slice rfl _ (slot_words s)).reshape _ _)) fun _ =>
    .op (.load xg (slotRect s).toLoadRect (View.loadsAt_vmem h_S1x64x64)) fun b =>
    .op (.load arg1 (wRect s).toLoadRect (View.loadsAt_vmem h_S64x2048)) fun w =>
    k (addTurn acc b w)) k

/-- Wait until each turn's rows have left. -/
def drainAll (c : Dev nD) (l : List (Fin 31)) (k : P F PUnit) : P F PUnit :=
  l.foldr (fun r k => .op (.waitDma2 (sendS r) (ownSlot c) (sentRows c r) ((hxg.wordExact_slice rfl _ (k0_off2_wordsbf16 c)).reshape _ _)
    (hxbf.wordExact_slice rfl _ (k0_off4_wordsbf16 c r))) fun _ => k) k

/-- The turns, and the slots, in order. -/
abbrev turns : List (Fin 31) := [0, 1, 2, 3, 4, 5, 6, 7, 8, 9, 10, 11, 12, 13, 14, 15, 16, 17, 18, 19, 20, 21, 22, 23, 24, 25, 26, 27, 28, 29, 30]
abbrev slots : List (Fin 32) := [0, 1, 2, 3, 4, 5, 6, 7, 8, 9, 10, 11, 12, 13, 14, 15, 16, 17, 18, 19, 20, 21, 22, 23, 24, 25, 26, 27, 28, 29, 30, 31]

/-- What the sum becomes on the way out. -/
def swish (a : FVec F S64x2048 .f32) : FVec F S64x2048 .f32 := mulf a (logistic a)

/-- The whole body, over the three staging buffers. -/
def body (arg0 : Memref sig .tc .vmem S2048x64 .bf16) (arg1 : Memref sig .tc .vmem S2048x2048 .bf16)
    (arg2 : Memref sig .tc .vmem S64x2048 .f32) : P F PUnit :=
  .op .deviceId fun c =>
  announce c turns <|
  .op (.semWait barS (31#32).toInt) fun _ =>
  .op (.load arg0 (Rect.unit (s := S2048x64) ![0, 0] S2048x64.size inb_S2048x64_S2048x64_0_0).toLoadRect (View.loadsAt_vmem h_S2048x64)) fun x =>
  .op (.load xbf (Rect.unit (s := S2048x64) ![0, 0] S2048x64.size inb_S2048x64_S2048x64_0_0).toLoadRect (View.loadsAt_vmem h_S2048x64)) fun _ =>
  .op (.store xbf (Rect.unit (s := S2048x64) ![0, 0] S2048x64.size inb_S2048x64_S2048x64_0_0)
    (shapeCast S2048x64 (shapeCast S2048x64 x shapeCasts_S2048x64_S2048x64) shapeCasts_S2048x64_S2048x64) Finset.univ
    (View.stores_vmem h_S2048x64 (hxbf.storeExact_slice rfl _ packedbf16_S2048x64_S2048x64_0_0) (fun _ => rfl)) (.inl rfl)) fun _ =>
  .op (.enqueueDma (ownRows c) (.here (ownSlot c)) (.dma (ownS c)) (hxbf.wordExact_slice rfl _ (k0_off3_wordsbf16 c))
    ((hxg.wordExact_slice rfl _ (k0_off2_wordsbf16 c)).reshape _ _) ⟨Or.inl rfl, trivial⟩) fun _ =>
  sendAll c turns <|
  recvAll arg1 slots (fun acc =>
    drainAll c turns <|
    .op (.load arg2 (Rect.unit (s := S64x2048) ![0, 0] S64x2048.size inb_S64x2048_S64x2048_0_0).toLoadRect (View.loadsAt_vmem h_S64x2048)) fun _ =>
    .op (.store arg2 (Rect.unit (s := S64x2048) ![0, 0] S64x2048.size inb_S64x2048_S64x2048_0_0) (swish acc) Finset.univ
      (View.stores_vmem_bits_univ h_S64x2048 rfl) (.inl rfl)) fun _ => .ret ⟨⟩)
    (broadcast S64x2048 (Scalar.ofBits .f32 0x00000000#32))

/-- The printed body is these loops. -/
theorem cc0_body_eq (arg0 : Memref sig .tc .vmem S2048x64 .bf16) (harg0 : arg0.IsWhole) (arg1 : Memref sig .tc .vmem S2048x2048 .bf16)
    (harg1 : arg1.IsWhole) (arg2 : Memref sig .tc .vmem S64x2048 .f32) (harg2 : arg2.IsWhole) :
    cc0_body (F := F) arg0 harg0 arg1 harg1 arg2 harg2 xbf (Memref.isWhole_whole _) xg (Memref.isWhole_whole _) cc0_scratch2 cc0_scratch3
      = body arg0 arg1 arg2 := rfl

end Cert.Entered.Proof

end
-- ==== Proof.Sched.lean ====
/- The protocol of the kernel behind the entry handshake: who signals whom, with what, and what each signal hands over.

   Device `c` in turn `r` speaks to `peer c r`; the peer's turn back to it is `rev r`. The cells of a device: its entry
   semaphore, the 31 semaphores its sends complete on, the 32 its slots complete on. One round each.
   * The entry cell of `t` has a duty for every turn `r`, paid by `peer t r` as it announces itself: one unit, handing over
     slot `t` of `peer t r`'s receive buffer, so that `t` may write it.
   * The send cell of turn `r` has one duty, paid by the copy itself: it gives the rows back that were being read.
   * The cell of slot `s` of `t` has one duty, paid by the copy from `s`: it hands over the slot, holding rows `t` of `s`'s
     operand (and for `s = t`, a copy within the device, the rows read as well). -/
module

public import proofs.«01_k».proof.Proof.Compact
public import proofs.«01_k».proof.Proof.Gen.EnteredIdeal.Launch
public import proofs.«01_k».proof.Proof.Gen.EnteredIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Entered.Proof

open Cert.EnteredIdeal Cert.EnteredIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The turns -/

theorem peer_val : ∀ (c : Dev nD) (r : Fin 31), (peer c r).val = (c.val + 1 + r.val) % 32 := by decide +kernel
theorem peer_rev (c : Dev nD) (r : Fin 31) : peer (peer c r) r.rev = c := by
  apply Fin.ext
  have h := peer_val c r; have h' := peer_val (peer c r) r.rev
  have hr := Fin.val_rev r; have hc : c.val < 32 := c.isLt; have hl := r.isLt
  omega
theorem rev_peer (c : Dev nD) (r : Fin 31) : peer (peer c r.rev) r = c := by
  have h := peer_rev c r.rev; rwa [Fin.rev_rev] at h
theorem peer_ne (c : Dev nD) (r : Fin 31) : peer c r ≠ c := by
  intro h
  have h1 := congrArg Fin.val h; have h2 := peer_val c r; have hc : c.val < 32 := c.isLt; have hl := r.isLt
  omega
theorem peer_inj (c : Dev nD) : Function.Injective (peer c) := by
  intro r r' h
  have h1 := congrArg Fin.val h; have h2 := peer_val c r; have h3 := peer_val c r'
  have hc : c.val < 32 := c.isLt; have hl := r.isLt; have hl' := r'.isLt
  apply Fin.ext; omega
/-- Every device is `c` or one of its peers. -/
theorem univ_eq (c : Dev nD) : (Finset.univ : Finset (Dev nD)) = insert c (Finset.univ.map ⟨peer c, peer_inj c⟩) := by
  symm
  rw [← Finset.card_eq_iff_eq_univ, Finset.card_insert_of_notMem, Finset.card_map, Finset.card_univ, Fintype.card_fin]
  · simp
  · intro h
    obtain ⟨r, -, hr⟩ := Finset.mem_map.mp h
    exact peer_ne c r hr
/-- All devices step `r + 1` places on together. -/
def rot (r : Fin 31) : Dev nD ≃ Dev nD := ⟨fun c => peer c r, fun c => peer c r.rev, fun c => peer_rev c r, fun c => rev_peer c r⟩

/-! ## The places -/

theorem rows_inb : ∀ (t : Fin 32) a, (![64 * t.val, 0] : Fin 2 → Nat) a + S64x64.size a ≤ S2048x64.size a := by decide
abbrev rowsRect (t : Fin 32) := Rect.unit (s := S2048x64) ![64 * t.val, 0] S64x64.size (rows_inb t)
/-- Row block `t` of a device's copy of its operand. -/
abbrev rows (t : Fin 32) : Memref sig .tc .vmem S64x64 .bf16 := xbf.slice (rowsRect t) (fun _ => rfl)

theorem off4_eq : ∀ (c : Dev nD) (r : Fin 31), k0_off4 c (BitVec.ofNat 32 (1 + r.val)) = ![64 * (peer c r).val, 0] := by decide +kernel
theorem sentRows_eq (c : Dev nD) (r : Fin 31) : sentRows c r = rows (peer c r) := by
  have : ∀ (o : Fin 2 → Nat) (h : ∀ a, o a + S64x64.size a ≤ S2048x64.size a), o = ![64 * (peer c r).val, 0] →
      xbf.slice (Rect.unit (s := S2048x64) o S64x64.size h) (fun _ => rfl) = rows (peer c r) := by rintro o h rfl; rfl
  exact this _ _ (off4_eq c r)
theorem ownRows_eq (c : Dev nD) : ownRows c = rows c := by
  have : ∀ (o : Fin 2 → Nat) (h : ∀ a, o a + S64x64.size a ≤ S2048x64.size a), o = ![64 * c.val, 0] →
      xbf.slice (Rect.unit (s := S2048x64) o S64x64.size h) (fun _ => rfl) = rows c := by rintro o h rfl; rfl
  exact this _ _ (k0_off3_eq c)
theorem ownSlot_eq (c : Dev nD) : ownSlot c = slot c := by
  have : ∀ (o : Fin 3 → Nat) (h : ∀ a, o a + S1x64x64.size a ≤ S32x64x64.size a), o = ![c.val, 0, 0] →
      (xg.slice (Rect.unit (s := S32x64x64) o S1x64x64.size h) (fun _ => rfl)).squeeze S64x64 squeezes_S1x64x64_S64x64 = slot c := by
    rintro o h rfl; rfl
  exact this _ _ (k0_off2_eq c)
theorem ownS_eq : ∀ c : Dev nD, ownS c = recvS c := by decide +kernel

theorem rows_set (t : Fin 32) : (rows t).view.set = (rowsRect t).set := View.set_slice_whole _ _
theorem slot_set (s : Fin 32) : (slot s).view.set = (slotRect s).set := (View.set_reshape _ _).trans (View.set_slice_whole _ _)

theorem rows_disjoint : ∀ t t' : Fin 32, t ≠ t' → Disjoint (rowsRect t).set (rowsRect t').set :=
  Ring.lead_disjoint (s := S2048x64) (NB := 32) 0 64 (fun t => ![64 * t.val, 0]) S64x64.size rows_inb (fun _ => rfl) rfl
theorem rows_cover : Finset.univ.biUnion (fun t : Fin 32 => (rowsRect t).set) = Finset.univ :=
  Ring.lead_cover (s := S2048x64) (NB := 32) 0 64 (fun t => ![64 * t.val, 0]) S64x64.size rows_inb (fun _ => rfl)
    (fun t a ha => by fin_cases a <;> first | exact absurd rfl ha | rfl) rfl (fun a ha => by fin_cases a <;> first | exact absurd rfl ha | rfl) rfl
theorem slots_disjoint : ∀ s s' : Fin 32, s ≠ s' → Disjoint (slotRect s).set (slotRect s').set :=
  Ring.lead_disjoint (s := S32x64x64) (NB := 32) 0 1 (fun t => ![t.val, 0, 0]) S1x64x64.size slot_inb (fun t => (Nat.one_mul _).symm) rfl
theorem slots_cover : Finset.univ.biUnion (fun s : Fin 32 => (slotRect s).set) = Finset.univ :=
  Ring.lead_cover (s := S32x64x64) (NB := 32) 0 1 (fun t => ![t.val, 0, 0]) S1x64x64.size slot_inb (fun t => (Nat.one_mul _).symm)
    (fun t a ha => by fin_cases a <;> first | exact absurd rfl ha | rfl) rfl (fun a ha => by fin_cases a <;> first | exact absurd rfl ha | rfl) rfl

/-! ## The resource algebra: the pipeline library's copy and the protocol's (duties named by turns) -/

abbrev D : Type := Fin 31
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
abbrev sendCell (c : Dev nD) (r : Fin 31) : GSem nD τ sig := ((c : Thread nD τ), .dma (sendS r))
abbrev recvCell (c : Dev nD) (s : Fin 32) : GSem nD τ sig := ((c : Thread nD τ), .dma (recvS s))

/-- The kernel's own semaphores, two arrays of 32: those its sends complete on (the first unused), those of its slots. -/
abbrev KI : Type := Fin 32 ⊕ Fin 32
def oq : KI → DmaSem sig
  | .inl k => ⟨3 + k.val, by have := k.isLt; show 3 + k.val < 67; omega⟩
  | .inr s => recvS s
abbrev osem (k : KI) : SemLoc sig := .dma (oq k)
/-- Those and the entry semaphore. -/
def csem : Option KI → SemLoc sig
  | none => .reg barS
  | some k => osem k
abbrev kcell (ck : Dev nD × Option KI) : GSem nD τ sig := ((ck.1 : Thread nD τ), csem ck.2)

/-- What a DMA semaphore is for: a turn's sends, a slot, or neither. -/
def role (q : DmaSem sig) : Option (Fin 31 ⊕ Fin 32) :=
  if h : 4 ≤ q.val ∧ q.val < 35 then some (.inl ⟨q.val - 4, by omega⟩)
  else if h : 35 ≤ q.val ∧ q.val < 67 then some (.inr ⟨q.val - 35, by omega⟩) else none
theorem role_send : ∀ r, role (sendS r) = some (.inl r) := by decide +kernel
theorem role_recv : ∀ s, role (recvS s) = some (.inr s) := by decide +kernel
theorem oq_send : ∀ r : Fin 31, oq (.inl r.succ) = sendS r := by decide +kernel

/-- What one copy of a block counts. -/
abbrev N : ℕ := (slot 0).view.dmaCredit
theorem N_pos : 0 < N := View.dmaCredit_pos _ (by decide)

/-! ## Contents -/

/-- The operand block staged on `c`, the weights staged there, -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
/-- the copy the device sends from (the operand block again), -/
def xcopy (c : Dev nD) : Buf (Elt F) (xbf.view.loc (c : Thread nD τ)) := xstg m ρ c
/-- and what device `t` receives in slot `s`: rows `t` of `s`'s operand. -/
def blk (t s : Dev nD) : S64x64.Idx → Elt F .bf16 := (rows t).view.read (Elt F) (xcopy m ρ s)

/-- Slot `s` of device `c`, outright, at contents `f`; row block `t` of its copy, outright. -/
def slotPts (c : Dev nD) (s : Fin 32) (f : Buf (Elt F) ((slot s).view.loc (c : Thread nD τ))) : sProp 𝕄 :=
  (slot s).view.loc (c : Thread nD τ) ↦[(slot s).view.set]{fullShare} f
def rowPts (c : Dev nD) (t : Fin 32) : sProp 𝕄 :=
  (rows t).view.loc (c : Thread nD τ) ↦[(rows t).view.set]{fullShare} xcopy m ρ c
/-- Slot `s` of `c` when its block is in. -/
def slotIn (c : Dev nD) (s : Fin 32) : sProp 𝕄 := iprop(∃ f, ⌜(slot s).view.read (Elt F) f = blk m ρ c s⌝ ∗ slotPts c s f)

instance slotPts_storable (c : Dev nD) (s) (f) : BI.Storable (upEmb : UEmb _ 𝕄) (slotPts (F := F) c s f) := by unfold slotPts; infer_instance
instance rowPts_storable (c : Dev nD) (t) : BI.Storable (upEmb : UEmb _ 𝕄) (rowPts (F := F) m ρ c t) := by unfold rowPts; infer_instance

/-! ## The schedule -/

/-- What the announcement of `peer c r` hands `c`: slot `c` of its receive buffer, untouched. -/
def barPay (c : Dev nD) (r : D) : sProp 𝕄 := iprop((∃ f, slotPts (peer c r) c f) ∗ reached ER (recvCell (peer c r) c) 0)
def recvPay (c : Dev nD) (s : Fin 32) : sProp 𝕄 := iprop(slotIn m ρ c s ∗ (if s = c then rowPts m ρ c c else iprop(emp)))
def sendPay (c : Dev nD) (r : Fin 31) : sProp 𝕄 := rowPts m ρ c (peer c r)

def semDuties : SemLoc sig → Finset D
  | .reg _ => Finset.univ
  | .dma q => if (role q).isSome then {0} else ∅
def semAmount : SemLoc sig → ℕ
  | .reg _ => 1
  | .dma _ => N
def dmaPay (c : Dev nD) : Option (Fin 31 ⊕ Fin 32) → sProp 𝕄
  | some (.inl r) => sendPay m ρ c r
  | some (.inr s) => recvPay m ρ c s
  | none => iprop(emp)
def semPay (c : Dev nD) (d : D) : SemLoc sig → sProp 𝕄
  | .reg _ => barPay c d
  | .dma q => dmaPay m ρ c (role q)

def talk : Rounds.Schedule (GSem nD τ sig) D 𝕄 where
  duties g r := if r = 0 ∧ g.1.2 = .tc then semDuties g.2 else ∅
  unitless _ := False
  amount g _ _ := semAmount g.2
  payload g _ d := semPay m ρ g.1.1 d g.2
  amount_pos g _ _ _ := by
    rcases g with ⟨_, _ | _⟩
    · exact Nat.one_pos
    · exact N_pos

instance talk_payload_storable (g : GSem nD τ sig) (r : ℕ) (d : D) :
    BI.Storable (upEmb : UEmb _ 𝕄) ((talk (F := F) m ρ).payload g r d) := by
  rcases g with ⟨t, q | q⟩
  · show BI.Storable upEmb (barPay t.1 d); unfold barPay; infer_instance
  · show BI.Storable upEmb (dmaPay m ρ t.1 (role q))
    rcases role q with _ | _ | s
    · show BI.Storable upEmb iprop(emp); infer_instance
    · show BI.Storable upEmb (sendPay m ρ _ _); unfold sendPay; infer_instance
    · show BI.Storable upEmb (recvPay m ρ _ _); unfold recvPay slotIn
      split <;> infer_instance

section Sched
variable (c : Dev nD) (r : Fin 31) (s : Fin 32) (d : D)

theorem duties_zero (sm : SemLoc sig) : (talk (F := F) m ρ).duties ((c : Thread nD τ), sm) 0 = semDuties sm := by
  show (if (0 : ℕ) = 0 ∧ (c : Thread nD τ).2 = .tc then semDuties sm else ∅) = _
  exact if_pos ⟨rfl, rfl⟩
theorem duties_bar : (talk (F := F) m ρ).duties (barCell c) 0 = Finset.univ := duties_zero m ρ c _
theorem duties_send : (talk (F := F) m ρ).duties (sendCell c r) 0 = {0} := by
  rw [duties_zero]; dsimp only [semDuties]; rw [role_send]; rfl
theorem duties_recv : (talk (F := F) m ρ).duties (recvCell c s) 0 = {0} := by
  rw [duties_zero]; dsimp only [semDuties]; rw [role_recv]; rfl
theorem duties_later (g : GSem nD τ sig) : ∀ r, 1 ≤ r → (talk (F := F) m ρ).duties g r = ∅ :=
  fun r hr => if_neg fun h => by omega
theorem amount_bar : (talk (F := F) m ρ).amount (barCell c) 0 d = 1 := rfl
theorem amount_send : (talk (F := F) m ρ).amount (sendCell c r) 0 d = N := rfl
theorem amount_recv : (talk (F := F) m ρ).amount (recvCell c s) 0 d = N := rfl
theorem expect_bar : (talk (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (talk (F := F) m ρ).expect (sendCell c r) 0 = N := by
  unfold Schedule.expect Schedule.amountOf; rw [duties_send, Finset.sum_singleton, amount_send]
theorem expect_recv : (talk (F := F) m ρ).expect (recvCell c s) 0 = N := by
  unfold Schedule.expect Schedule.amountOf; rw [duties_recv, Finset.sum_singleton, amount_recv]
theorem payload_bar : (talk (F := F) m ρ).payload (barCell c) 0 d = barPay c d := rfl
theorem payload_send : (talk (F := F) m ρ).payload (sendCell c r) 0 d = sendPay m ρ c r := by
  show dmaPay m ρ c (role (sendS r)) = _; rw [role_send]; rfl
theorem payload_recv : (talk (F := F) m ρ).payload (recvCell c s) 0 d = recvPay m ρ c s := by
  show dmaPay m ρ c (role (recvS s)) = _; rw [role_recv]; rfl
theorem rest_bar : bigSep ((talk (F := F) m ρ).duties (barCell c) 0 \ ∅) (fun d => (talk (F := F) m ρ).payload (barCell c) 0 d)
    = bigSep Finset.univ fun d => barPay c d := by
  rw [Finset.sdiff_empty, duties_bar]; rfl
theorem rest_send : bigSep ((talk (F := F) m ρ).duties (sendCell c r) 0 \ ∅) (fun d => (talk (F := F) m ρ).payload (sendCell c r) 0 d) = sendPay m ρ c r := by
  rw [Finset.sdiff_empty, duties_send, bigSep_singleton, payload_send]
theorem rest_recv : bigSep ((talk (F := F) m ρ).duties (recvCell c s) 0 \ ∅) (fun d => (talk (F := F) m ρ).payload (recvCell c s) 0 d) = recvPay m ρ c s := by
  rw [Finset.sdiff_empty, duties_recv, bigSep_singleton, payload_recv]
end Sched

/-! ## What each device owes at launch; the levels -/

/-- The units due to the peers' entry cells over the turns `l`; the copies due to their slots. -/
def barDues (c : Dev nD) (l : List (Fin 31)) : CellTallies nD τ sig Unit := (l.map fun r => tallyAt (barCell (peer c r)) () 1).sum
def recvDues (c : Dev nD) (l : List (Fin 31)) : CellTallies nD τ sig Unit := (l.map fun r => tallyAt (recvCell (peer c r) c) () N).sum
def O₀ (c : Dev nD) : CellTallies nD τ sig Unit := recvDues c turns + barDues c turns

def L (g : GSem nD τ sig) : Finset Unit := if g.1.2 = .tc then {()} else ∅
/-- Entry cells at 1, slot cells at 2, everything else (staging, sends) at 0. -/
def semLv : SemLoc sig → ℕ
  | .reg _ => 1
  | .dma q => if (role q).any Sum.isRight then 2 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 32) : lv (recvCell c s) () = 2 := by
  show (if (role (recvS s)).any Sum.isRight then 2 else 0) = 2; rw [role_recv]; rfl

/-- Where a sum of dues is positive, one of them is. -/
theorem dues_pos {T : Fin 31 → GSem nD τ sig} {n : ℕ} : ∀ {l : List (Fin 31)} {g : GSem nD τ sig} {u : Unit},
    0 < ((l.map fun r => (tallyAt (T r) () n : CellTallies nD τ sig Unit)).sum) g u → ∃ r, g = T r
  | [], _, _, h => absurd h (Nat.lt_irrefl 0)
  | r :: l, g, u, h => by
    rw [List.map_cons, List.sum_cons, Pi.add_apply, Finsupp.add_apply, tallyAt_apply] at h
    by_cases hg : g = T r ∧ u = ()
    · exact ⟨r, hg.1⟩
    · rw [if_neg hg, Nat.zero_add] at h; exact dues_pos h

theorem mayWait_stage (c : Dev nD) (q : DmaSem sig) (hq : role q = none) (O : CellTallies nD τ sig Unit) (hO : O = O₀ c ∨ O = 0) :
    (levAts L lv : sProp 𝕄) ⊢ MayWait (c : Thread nD τ) (.dma q) () O := by
  have hlv (p : Unit) : lv ((c : Thread nD τ), .dma q) p = 0 := by
    show (if (role q).any Sum.isRight then 2 else 0) = 0; rw [hq]; rfl
  have hpos {g : GSem nD τ sig} {u : Unit} (hg : 0 < O₀ c g u) : (∃ r, g = recvCell (peer c r) c) ∨ ∃ r, g = barCell (peer c r) := by
    unfold O₀ at hg
    rw [Pi.add_apply, Finsupp.add_apply] at hg
    rcases Nat.eq_zero_or_pos (recvDues c turns g u) with h0 | h0
    · rw [h0, Nat.zero_add] at hg; exact .inr (dues_pos hg)
    · exact .inl (dues_pos h0)
  rcases hO with rfl | rfl
  · refine MayOwe.of_cut (L := L) (lev := lv) 0 (fun p hp => by rw [Finset.mem_singleton.mp hp, L_tc]; exact Finset.mem_singleton_self _)
      (fun g u hg => by rcases hpos hg with ⟨r, rfl⟩ | ⟨r, rfl⟩ <;> exact Finset.mem_singleton_self _)
      (fun p hp => by rw [Finset.mem_singleton.mp hp, hlv])
      (fun g u hg => by
        rcases hpos hg with ⟨r, rfl⟩ | ⟨r, rfl⟩
        · rw [lv_recv]; decide
        · show 0 < 1; decide)
  · rw [MayWait_zero]; iintro -; iempintro

/-- At its entry wait a device owes its copies only: slot cells, above its entry cell. -/
theorem mayWait_bar (c : Dev nD) : (levAts L lv : sProp 𝕄) ⊢ MayWait (c : Thread nD τ) (.reg barS) () (recvDues c turns) :=
  MayOwe.of_cut (L := L) (lev := lv) 1 (fun p hp => by rw [Finset.mem_singleton.mp hp, L_tc]; exact Finset.mem_singleton_self _)
    (fun g u hg => by obtain ⟨r, rfl⟩ := dues_pos hg; exact Finset.mem_singleton_self _)
    (fun p hp => by rw [Finset.mem_singleton.mp hp]; rfl)
    (fun g u hg => by obtain ⟨r, rfl⟩ := dues_pos hg; rw [lv_recv]; decide)

end Cert.Entered.Proof

end
-- ==== Proof.Body.lean ====
/- The body's loops, turn by turn, and the body from them. -/
module

public import proofs.«01_k».proof.Proof.Sched
public import Idealize.ShloMosaic.Lib.Pipeline.Value

@[expose] public section

set_option maxRecDepth 16384

noncomputable section

namespace Cert.Entered.Proof

open Cert.EnteredIdeal Cert.EnteredIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Resources along a list -/

/-- `Φ` of every entry of the list. -/
def each {I : Type} (l : List I) (Φ : I → sProp 𝕄) : sProp 𝕄 := l.foldr (fun i P => iprop(Φ i ∗ P)) iprop(emp)

theorem each_nil {I : Type} (Φ : I → sProp 𝕄) : each [] Φ = iprop(emp) := rfl
theorem each_cons {I : Type} (i : I) (l : List I) (Φ : I → sProp 𝕄) : each (i :: l) Φ = iprop(Φ i ∗ each l Φ) := rfl
theorem each_eq {I : Type} [DecidableEq I] : ∀ {l : List I} (_ : l.Nodup) (Φ : I → sProp 𝕄), each l Φ = bigSep l.toFinset Φ
  | [], _, _ => rfl
  | i :: l, h, Φ => by
    rw [each_cons, each_eq (List.nodup_cons.mp h).2, List.toFinset_cons, BI.bigSep_insert]
    · rfl
    · rw [List.mem_toFinset]; exact (List.nodup_cons.mp h).1
theorem each_turns (Φ : Fin 31 → sProp 𝕄) : each turns Φ = bigSep Finset.univ Φ := by
  rw [each_eq (by decide)]; rfl
theorem each_slots (Φ : Fin 32 → sProp 𝕄) : each slots Φ = bigSep Finset.univ Φ := by
  rw [each_eq (by decide)]; rfl

/-! ## The cells' invariants -/

/-- Every cell's invariant, at the names `K`, and that every cell is at its round. -/
def records (K : Dev nD × Option KI → ℕ) : sProp 𝕄 :=
  iprop((bigSep Finset.univ fun ck : Dev nD × Option KI => cellInv ER (talk m ρ) (K ck) (kcell ck))
    ∗ bigSep Finset.univ fun ck : Dev nD × Option KI => reached ER (kcell ck) 0)

instance records_persistent (K : Dev nD × Option KI → ℕ) : BI.Persistent (records (F := F) m ρ K) := by unfold records; infer_instance

section Records
variable (K : Dev nD × Option KI → ℕ)

theorem inv_at (ck : Dev nD × Option KI) : records m ρ K ⊢ iprop(cellInv ER (talk m ρ) (K ck) (kcell ck) ∗ reached ER (kcell ck) 0) := by
  unfold records
  exact BI.sep_mono (bigSep_elim (Finset.mem_univ ck)) (bigSep_elim (Finset.mem_univ ck))
theorem inv_bar (c : Dev nD) : records m ρ K ⊢ iprop(cellInv ER (talk m ρ) (K (c, none)) (barCell c) ∗ reached ER (barCell c) 0) :=
  inv_at m ρ K (c, none)
theorem inv_recv (c : Dev nD) (s : Fin 32) :
    records m ρ K ⊢ iprop(cellInv ER (talk m ρ) (K (c, some (.inr s))) (recvCell c s) ∗ reached ER (recvCell c s) 0) :=
  inv_at m ρ K (c, some (.inr s))
theorem inv_send (c : Dev nD) (r : Fin 31) :
    records m ρ K ⊢ iprop(cellInv ER (talk m ρ) (K (c, some (.inl r.succ))) (sendCell c r) ∗ reached ER (sendCell c r) 0) := by
  have h := inv_at m ρ K (c, some (.inl r.succ))
  dsimp only [kcell, csem, osem] at h
  rwa [oq_send] at h

/-- Owing `O`, whatever has been waited for. -/
def owesAny (c : Dev nD) (O : CellTallies nD τ sig Unit) : sProp 𝕄 := iprop(∃ W, owes (c : Thread nD τ) O W)

/-- The rest of the body, run from here. -/
abbrev run (c : Dev nD) (k : P F PUnit) (Q : PUnit → sProp 𝕄) : sProp 𝕄 :=
  wp frame (wpE (defs₀ (F := F)) 𝒱₀ (c : Thread nD τ) none) Set.univ k Q

/-! ## Announcing -/

theorem announce_cons (c : Dev nD) (r : Fin 31) (l : List (Fin 31)) (k : P F PUnit) :
    announce c (r :: l) k = .op (.semSignal (Dev.tc (peer c r)) barS (1#32).toInt) fun _ => announce c l k := rfl
theorem barDues_cons (c : Dev nD) (r : Fin 31) (l : List (Fin 31)) :
    barDues c (r :: l) = tallyAt (barCell (peer c r)) () 1 + barDues c l := List.sum_cons
theorem recvDues_cons (c : Dev nD) (r : Fin 31) (l : List (Fin 31)) :
    recvDues c (r :: l) = tallyAt (recvCell (peer c r) c) () N + recvDues c l := List.sum_cons

theorem announce_run (c : Dev nD) (O : CellTallies nD τ sig Unit) (k : P F PUnit) (Q : PUnit → sProp 𝕄) : ∀ l : List (Fin 31),
    iprop(records m ρ K ∗ each l (fun r => dutyTok ER (barCell (peer c r)) 0 r.rev) ∗ each l (fun r => iprop(∃ f, slotPts c (peer c r) f))
        ∗ owesAny c (O + barDues c l) ∗ (owesAny c O -∗ run c k Q))
      ⊢ run c (announce c l k) Q
  | [] => by
    iintro ⟨-, -, -, HO, Hk⟩
    iapply Hk
    rw [show O + barDues c [] = O from add_zero O]; iexact HO
  | r :: l => by
    rw [announce_cons, each_cons, each_cons, barDues_cons]
    unfold owesAny
    iintro ⟨#HR, ⟨Ht, Hts⟩, ⟨Hs, Hss⟩, ⟨%W, HO⟩, Hk⟩
    ihave HI := (inv_bar m ρ K (peer c r)) $$ HR
    icases HI with ⟨#HI, #Hr⟩
    iapply (Rounds.wp_signal 𝒱₀ ER (talk m ρ) (c : Thread nD τ) none (dst := (peer c r : Thread nD τ)) (κ := K (peer c r, none))
        (d := r.rev) (by rw [duties_bar]; exact Finset.mem_univ _) ((amount_bar m ρ (peer c r) r.rev).trans (by decide)) () (O + barDues c l)
        (O₀ := O + (tallyAt (barCell (peer c r)) () 1 + barDues c l)) (by
          show _ = O + barDues c l + tallyAt (barCell (peer c r)) () 1
          rw [add_comm (tallyAt _ _ _), add_assoc])) $$ [HO Ht Hs]
    · isplitr; · iexact HI
      isplitl [HO]; · iexact HO
      isplitl [Ht]; · iexact Ht
      isplitl [Hs]
      · rw [payload_bar]; unfold barPay; rw [peer_rev]
        isplitl [Hs]; · iexact Hs
        ihave Hv := (inv_recv m ρ K c (peer c r)) $$ HR
        icases Hv with ⟨-, #Hv⟩; iexact Hv
      · iexact Hr
    iintro HO
    iapply (announce_run c O k Q l)
    isplitr; · iexact HR
    isplitl [Hts]; · iexact Hts
    isplitl [Hss]; · iexact Hss
    isplitl [HO]; · unfold owesAny; iexists W; iexact HO
    unfold owesAny; iexact Hk

/-! ## Sending -/

/-- One turn's copy, its rows and its slot given by name. -/
theorem send_step (c : Dev nD) (r : Fin 31) (src : Memref sig .tc .vmem S64x64 .bf16) (dst : Memref sig .tc .vmem S64x64 .bf16)
    (q : DmaSem sig) (hs : src = rows (peer c r)) (hd : dst = slot c) (hq : q = recvS c)
    {hsc : (dst : Memref sig (Dev.tc (peer c r) : Thread nD τ).2.kind .vmem S64x64 .bf16).view.ref.isScScratch = false}
    {hsrc : src.view.WordExact} {hdst : dst.view.WordExact}
    {hsem : DmaTarget.Typed .vmem (.dma q) (.remote (Dev.tc (peer c r) : Thread nD τ) dst (.dma (sendS r)) hsc)}
    {k : PUnit → P F PUnit} {Q : PUnit → sProp 𝕄} (O : CellTallies nD τ sig Unit) (W : Waits sig Unit) :
    iprop(records m ρ K ∗ rowPts m ρ c (peer c r) ∗ (∃ f, slotPts (peer c r) c f)
        ∗ owes (c : Thread nD τ) (tallyAt (recvCell (peer c r) c) () N + O) W
        ∗ dutyTok ER (sendCell c r) 0 0 ∗ dutyTok ER (recvCell (peer c r) c) 0 0)
      ⊢ iprop(((cred (tallyAt (sendCell c r) () N) ∗ owes (c : Thread nD τ) O W) -∗ run c (k ⟨⟩) Q)
          -∗ run c (.op (.enqueueDma src (.remote (Dev.tc (peer c r) : Thread nD τ) dst (.dma (sendS r)) hsc) (.dma q) hsrc hdst hsem) k) Q) := by
  subst hs hd hq
  iintro ⟨#HR, Hrow, ⟨%fd, Hslot⟩, HO, HtS, HtV⟩ Hk
  ihave HS := (inv_send m ρ K c r) $$ HR
  icases HS with ⟨#HIS, #HrS⟩
  ihave HV := (inv_recv m ρ K (peer c r) c) $$ HR
  icases HV with ⟨#HIV, #HrV⟩
  unfold rowPts slotPts
  iapply (Rounds.wp_send_pointsTo 𝒱₀ ER (talk m ρ) (c : Thread nD τ) none (κ₁ := K (c, some (.inl r.succ))) (κ₂ := K (peer c r, some (.inr c)))
    (r₁ := 0) (r₂ := 0) (d₁ := 0) (d₂ := 0) (fd := fd)
    (by rw [duties_send]; exact Finset.mem_singleton_self _) (by rw [duties_recv]; exact Finset.mem_singleton_self _)
    () () N rfl (amount_send m ρ c r 0) (amount_recv m ρ (peer c r) c 0) O (by rw [add_comm]) (W := W)
    (by rw [payload_send]; exact BI.Entails.refl _)
    (by
      rw [payload_recv]; unfold recvPay slotIn slotPts
      iintro H
      isplitl
      · iexists _
        isplitr
        swap
        · iexact H
        · ipureintro
          exact View.read_write_univ _ _
      · rw [if_neg (peer_ne c r).symm]; iempintro)) $$ [Hrow Hslot HO HtS HtV]
  · isplitr; · iexact HIS
    isplitr; · iexact HIV
    isplitl [Hrow]; · iexact Hrow
    isplitl [Hslot]; · iexact Hslot
    isplitl [HO]; · iexact HO
    isplitl [HtS]; · iexact HtS
    isplitr; · iexact HrS
    isplitl [HtV]; · iexact HtV
    iexact HrV
  iexact Hk

theorem sendAll_run (c : Dev nD) (k : P F PUnit) (Q : PUnit → sProp 𝕄) : ∀ l : List (Fin 31),
    iprop(records m ρ K ∗ each l (fun r => dutyTok ER (sendCell c r) 0 0) ∗ each l (fun r => dutyTok ER (recvCell (peer c r) c) 0 0)
        ∗ each l (fun r => rowPts m ρ c (peer c r)) ∗ each l (fun r => iprop(∃ f, slotPts (peer c r) c f))
        ∗ owesAny c (recvDues c l) ∗ ((owesAny c 0 ∗ each l (fun r => cred (tallyAt (sendCell c r) () N))) -∗ run c k Q))
      ⊢ run c (sendAll c l k) Q
  | [] => by
    iintro ⟨-, -, -, -, -, HO, Hk⟩
    iapply Hk
    isplitl; · iexact HO
    rw [each_nil]; iempintro
  | r :: l => by
    simp only [each_cons, recvDues_cons]
    unfold owesAny
    iintro ⟨#HR, ⟨HtS, HtSs⟩, ⟨HtV, HtVs⟩, ⟨Hrow, Hrows⟩, ⟨Hslot, Hslots⟩, ⟨%W, HO⟩, Hk⟩
    iapply (send_step m ρ K c r (sentRows c r) (ownSlot c) (ownS c) (sentRows_eq c r) (ownSlot_eq c) (ownS_eq c) (recvDues c l) W)
      $$ [Hrow Hslot HO HtS HtV]
    · isplitr; · iexact HR
      isplitl [Hrow]; · iexact Hrow
      isplitl [Hslot]; · iexact Hslot
      isplitl [HO]; · iexact HO
      isplitl [HtS] <;> iassumption
    iintro ⟨Hc, HO⟩
    iapply (sendAll_run c k Q l)
    isplitr; · iexact HR
    isplitl [HtSs]; · iexact HtSs
    isplitl [HtVs]; · iexact HtVs
    isplitl [Hrows]; · iexact Hrows
    isplitl [Hslots]; · iexact Hslots
    isplitl [HO]; · unfold owesAny; iexists W; iexact HO
    unfold owesAny
    iintro ⟨HO, Hcs⟩
    iapply Hk
    isplitl [HO]; · iexact HO
    isplitl [Hc] <;> iassumption

/-! ## Receiving -/

/-- One slot's contribution: the block in it times the rows of the weights it belongs to. -/
def addBlk (acc : FVec F S64x2048 .f32) (b : Vec F S64x64 .bf16) (w : Vec F S64x2048 .bf16) : FVec F S64x2048 .f32 :=
  addf acc (matmul dot_S64x64_S64x2048_S64x2048_1_0_0_1_n_n none b (shapeCast S64x2048 w shapeCasts_S64x2048_S64x2048)
    (constant S64x2048 .f32 0x00000000#32))
/-- The rows of the weights slot `s` belongs to. -/
def wRows (c : Dev nD) (s : Fin 32) : Vec F S64x2048 .bf16 :=
  (Memref.whole cc0_stg1_0 : Memref sig .tc .vmem S2048x2048 .bf16).view.readAt (Elt F) (wRect s).toLoadRect (wstg m ρ c)
/-- The sum device `c` forms over the slots `l`, from `acc` on. -/
def sumOver (c : Dev nD) (l : List (Fin 32)) (acc : FVec F S64x2048 .f32) : FVec F S64x2048 .f32 :=
  l.foldl (fun a s => addBlk a (blk m ρ c s) (wRows m ρ c s)) acc

/-- What a load of slot `s` finds when its block is in. -/
theorem load_slot (c : Dev nD) (s : Fin 32) (f : Buf (Elt F) ((slot s).view.loc (c : Thread nD τ)))
    (h : (slot s).view.read (Elt F) f = blk m ρ c s) :
    shapeCast S64x64 (xg.view.readAt (Elt F) (slotRect s).toLoadRect f) shapeCasts_S1x64x64_S64x64 = blk m ρ c s := by
  rw [← h]; rfl

theorem recvAll_cons (arg1 : Memref sig .tc .vmem S2048x2048 .bf16) (s : Fin 32) (l : List (Fin 32)) (k : FVec F S64x2048 .f32 → P F PUnit)
    (acc : FVec F S64x2048 .f32) : recvAll arg1 (s :: l) k acc =
      .op (.waitDma2 (recvS s) someRows (slot s) (hxbf.wordExact_slice rfl _ wordsbf16_S2048x64_S64x64_0_0)
        ((hxg.wordExact_slice rfl _ (slot_words s)).reshape _ _)) fun _ =>
      .op (.load xg (slotRect s).toLoadRect (View.loadsAt_vmem h_S1x64x64)) fun b =>
      .op (.load arg1 (wRect s).toLoadRect (View.loadsAt_vmem h_S64x2048)) fun w =>
      recvAll arg1 l k (addTurn acc b w) := rfl

/-- The weights staged on `c`. -/
def wPts (c : Dev nD) : sProp 𝕄 := ((c : Thread nD τ).loc cc0_stg1_0) ↦{fullShare} wstg m ρ c

/-- What is left of slot `s`: its block, its cell closed, and of its own slot also the rows that were copied from. -/
def gotSlot (c : Dev nD) (s : Fin 32) : sProp 𝕄 := iprop(recvPay m ρ c s ∗ semVal (recvCell c s) 0)

theorem recvAll_run (c : Dev nD) (k : FVec F S64x2048 .f32 → P F PUnit) (Q : PUnit → sProp 𝕄) : ∀ (l : List (Fin 32)) (acc : FVec F S64x2048 .f32),
    iprop(records m ρ K ∗ each l (fun s => cred (tallyAt (recvCell c s) () N)) ∗ each l (fun s => atPos ER (recvCell c s) 0 ∅ 0)
        ∗ wPts m ρ c ∗ owesAny c 0
        ∗ ((owesAny c 0 ∗ wPts m ρ c ∗ each l (gotSlot m ρ c)) -∗ run c (k (sumOver m ρ c l acc)) Q))
      ⊢ run c (recvAll (Memref.whole cc0_stg1_0) l k acc) Q
  | [], acc => by
    iintro ⟨-, -, -, Hw, HO, Hk⟩
    iapply Hk
    isplitl [HO]; · iexact HO
    isplitl [Hw]; · iexact Hw
    rw [each_nil]; iempintro
  | s :: l, acc => by
    rw [recvAll_cons]
    simp only [each_cons]
    unfold owesAny
    iintro ⟨#HR, ⟨Hc, Hcs⟩, ⟨Hat, Hats⟩, Hw, ⟨%W, HO⟩, Hk⟩
    ihave HI := (inv_recv m ρ K c s) $$ HR
    icases HI with ⟨#HI, -⟩
    iapply (Rounds.wp_wait_rest_token 𝒱₀ ER (talk m ρ) (c : Thread nD τ) none (κ := K (c, some (.inr s)))
        (wpE_waitDma2_eq 𝒱₀ (c : Thread nD τ) none Set.univ) (Set.mem_univ _) () (O := 0) (W := W) (R := 0) (m := 0) (T := ∅)
        (by rw [Nat.zero_add, expect_recv])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_recv m ρ c s)) $$ Hpay
    imod (Rounds.cell_close ER (talk m ρ) (Set.mem_univ (K (c, some (.inr s)))) (fun h => h) (R := 0 + 1) (duties_later m ρ (recvCell c s))) $$ [Hat] with Hz
    · isplitr; · iexact HI
      iexact Hat
    unfold recvPay slotIn slotPts
    icases Hp with ⟨⟨%f, %hf, Hslot⟩, Hown⟩
    iapply (wp_load 𝒱₀ (c : Thread nD τ) none Set.univ (m := xg) (r := (slotRect s).toLoadRect)
      ((View.set_reshape _ _).trans (View.set_slice _ _)).ge) $$ Hslot
    iintro Hslot
    unfold wPts
    iapply (wp_load 𝒱₀ (c : Thread nD τ) none Set.univ (m := Memref.whole cc0_stg1_0) (r := (wRect s).toLoadRect) (Finset.subset_univ _)) $$ Hw
    iintro Hw
    iapply (recvAll_run c k Q l _)
    isplitr; · iexact HR
    isplitl [Hcs]; · iexact Hcs
    isplitl [Hats]; · iexact Hats
    isplitl [Hw]; · unfold wPts; iexact Hw
    isplitl [HO]; · unfold owesAny; iexists _; iexact HO
    iintro ⟨HO, Hw, Hgot⟩
    have e : sumOver m ρ c (s :: l) acc = sumOver m ρ c l (addTurn acc (xg.view.readAt (Elt F) (slotRect s).toLoadRect f)
        ((Memref.whole cc0_stg1_0 : Memref sig .tc .vmem S2048x2048 .bf16).view.readAt (Elt F) (wRect s).toLoadRect (wstg m ρ c))) := by
      show sumOver m ρ c l (addBlk acc (blk m ρ c s) (wRows m ρ c s)) = _
      unfold addTurn addBlk wRows
      rw [load_slot m ρ c s f hf]
    rw [← e]
    iapply Hk
    isplitl [HO]; · unfold owesAny; iexact HO
    isplitl [Hw]; · unfold wPts; iexact Hw
    isplitr [Hgot]
    · unfold gotSlot recvPay slotIn slotPts
      isplitr [Hz]
      · isplitl [Hslot]
        · iexists f
          isplitr; · ipureintro; exact hf
          iexact Hslot
        · iexact Hown
      · iexact Hz
    · iexact Hgot

/-! ## Draining -/

theorem drainAll_cons (c : Dev nD) (r : Fin 31) (l : List (Fin 31)) (k : P F PUnit) : drainAll c (r :: l) k =
    .op (.waitDma2 (sendS r) (ownSlot c) (sentRows c r) ((hxg.wordExact_slice rfl _ (k0_off2_wordsbf16 c)).reshape _ _)
      (hxbf.wordExact_slice rfl _ (k0_off4_wordsbf16 c r))) fun _ => drainAll c l k := rfl

theorem drainAll_run (c : Dev nD) (k : P F PUnit) (Q : PUnit → sProp 𝕄) : ∀ l : List (Fin 31),
    iprop(records m ρ K ∗ each l (fun r => cred (tallyAt (sendCell c r) () N)) ∗ each l (fun r => atPos ER (sendCell c r) 0 ∅ 0) ∗ owesAny c 0
        ∗ ((owesAny c 0 ∗ each l (fun r => iprop(rowPts m ρ c (peer c r) ∗ semVal (sendCell c r) 0))) -∗ run c k Q))
      ⊢ run c (drainAll c l k) Q
  | [] => by
    iintro ⟨-, -, -, HO, Hk⟩
    iapply Hk
    isplitl; · iexact HO
    rw [each_nil]; iempintro
  | r :: l => by
    rw [drainAll_cons]
    simp only [each_cons]
    unfold owesAny
    iintro ⟨#HR, ⟨Hc, Hcs⟩, ⟨Hat, Hats⟩, ⟨%W, HO⟩, Hk⟩
    ihave HI := (inv_send m ρ K c r) $$ HR
    icases HI with ⟨#HI, -⟩
    iapply (Rounds.wp_wait_rest_token 𝒱₀ ER (talk m ρ) (c : Thread nD τ) none (κ := K (c, some (.inl r.succ)))
        (wpE_waitDma2_eq 𝒱₀ (c : Thread nD τ) none Set.univ) (Set.mem_univ _) () (O := 0) (W := W) (R := 0) (m := 0) (T := ∅)
        (by rw [Nat.zero_add, expect_send])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_send m ρ c r)) $$ Hpay
    imod (Rounds.cell_close ER (talk m ρ) (Set.mem_univ (K (c, some (.inl r.succ)))) (fun h => h) (R := 0 + 1) (duties_later m ρ (sendCell c r))) $$ [Hat] with Hz
    · isplitr; · iexact HI
      iexact Hat
    iapply (drainAll_run c k Q l)
    isplitr; · iexact HR
    isplitl [Hcs]; · iexact Hcs
    isplitl [Hats]; · iexact Hats
    isplitl [HO]; · unfold owesAny; iexists _; iexact HO
    iintro ⟨HO, Hgot⟩
    iapply Hk
    isplitl [HO]; · unfold owesAny; iexact HO
    isplitr [Hgot]
    · isplitl [Hp]
      · unfold sendPay; iexact Hp
      · iexact Hz
    · iexact Hgot

end Records

/-! ## Taking things apart and putting them together -/

theorem around (c : Dev nD) (Φ : Dev nD → sProp 𝕄) : bigSep Finset.univ Φ = iprop(Φ c ∗ bigSep Finset.univ fun r : Fin 31 => Φ (peer c r)) := by
  rw [univ_eq c, BI.bigSep_insert, bigSep_map]
  · rfl
  · intro h; obtain ⟨r, -, hr⟩ := Finset.mem_map.mp h; exact peer_ne c r hr
theorem bigSep_succ (Φ : Fin 32 → sProp 𝕄) : bigSep Finset.univ Φ = iprop(Φ 0 ∗ bigSep Finset.univ fun r : Fin 31 => Φ r.succ) := by
  rw [Fin.univ_succ, Finset.cons_eq_insert, BI.bigSep_insert, bigSep_map]
  · rfl
  · intro h; obtain ⟨r, -, hr⟩ := Finset.mem_map.mp h; exact Fin.succ_ne_zero r hr
theorem bigSep_opt {I : Type} [Fintype I] [DecidableEq I] (Φ : Option I → sProp 𝕄) :
    bigSep Finset.univ Φ = iprop(Φ none ∗ bigSep Finset.univ fun i => Φ (some i)) := by
  rw [show (Finset.univ : Finset (Option I)) = insert none (Finset.univ.map Function.Embedding.some) from by
    ext o; cases o <;> simp, BI.bigSep_insert, bigSep_map]
  · rfl
  · simp
/-- The kernel's own semaphores, -/
theorem own_eq (Φ : SemLoc sig → sProp 𝕄) : (bigSep Finset.univ fun k : KI => Φ (osem k))
    = iprop((Φ (osem (.inl 0)) ∗ bigSep Finset.univ fun r : Fin 31 => Φ (.dma (sendS r))) ∗ bigSep Finset.univ fun s : Fin 32 => Φ (.dma (recvS s))) := by
  refine (BI.bigSep_univ_sum _).trans ?_
  rw [bigSep_succ]
  congr 2
/-- and with them the entry semaphore. -/
theorem cells_eq (Φ : SemLoc sig → sProp 𝕄) : (bigSep Finset.univ fun k : Option KI => Φ (csem k))
    = iprop(Φ (.reg barS) ∗ (Φ (osem (.inl 0)) ∗ bigSep Finset.univ fun r : Fin 31 => Φ (.dma (sendS r))) ∗ bigSep Finset.univ fun s : Fin 32 => Φ (.dma (recvS s))) := by
  rw [bigSep_opt, ← own_eq]; rfl

/-- The receive buffer, and the copy of the operand, whole. -/
def xgPts (c : Dev nD) (f : Buf (Elt F) ((c : Thread nD τ).loc cc0_scratch1)) : sProp 𝕄 := ((c : Thread nD τ).loc cc0_scratch1) ↦{fullShare} f
def xbfPts (c : Dev nD) (f : Buf (Elt F) ((c : Thread nD τ).loc cc0_scratch0)) : sProp 𝕄 := ((c : Thread nD τ).loc cc0_scratch0) ↦{fullShare} f

theorem slotPts_eq (c : Dev nD) (s : Fin 32) (f : Buf (Elt F) ((c : Thread nD τ).loc cc0_scratch1)) :
    (slotPts c s f : sProp 𝕄) = (((c : Thread nD τ).loc cc0_scratch1) ↦[(slotRect s).set]{fullShare} f) :=
  congrArg (fun S => ((((c : Thread nD τ).loc cc0_scratch1) ↦[S]{fullShare} f) : sProp 𝕄)) (slot_set s)
theorem rowPts_eq (c : Dev nD) (t : Fin 32) :
    (rowPts m ρ c t : sProp 𝕄) = (((c : Thread nD τ).loc cc0_scratch0) ↦[(rowsRect t).set]{fullShare} xcopy m ρ c) :=
  congrArg (fun S => ((((c : Thread nD τ).loc cc0_scratch0) ↦[S]{fullShare} xcopy m ρ c) : sProp 𝕄)) (rows_set t)

theorem xg_blocks (c : Dev nD) (f : Buf (Elt F) ((c : Thread nD τ).loc cc0_scratch1)) :
    (xgPts c f : sProp 𝕄) = bigSep Finset.univ fun s : Fin 32 => slotPts c s f := by
  simp only [slotPts_eq]
  exact Ring.pointsTo_blocks (ℓ := (c : Thread nD τ).loc cc0_scratch1) (fun s : Fin 32 => (slotRect s).set) slots_disjoint slots_cover f
theorem slot_any (c : Dev nD) (s : Fin 32) (f : Buf (Elt F) ((c : Thread nD τ).loc cc0_scratch1)) :
    (slotPts c s f : sProp 𝕄) ⊢ iprop(∃ f, slotPts c s f) := by
  iintro H; iexists f; iexact H
theorem xg_split (c : Dev nD) (f : Buf (Elt F) ((c : Thread nD τ).loc cc0_scratch1)) :
    (xgPts c f : sProp 𝕄) ⊢ iprop((∃ f, slotPts c c f) ∗ each turns fun r => iprop(∃ f, slotPts c (peer c r) f)) := by
  rw [xg_blocks, each_turns, ← around c (fun s => iprop(∃ f, slotPts (F := F) c s f))]
  exact bigSep_mono fun s _ => slot_any c s f
theorem slot_some (c : Dev nD) (s : Fin 32) :
    (slotIn m ρ c s : sProp 𝕄) ⊢ iprop(∃ f : Buf (Elt F) ((c : Thread nD τ).loc cc0_scratch1), ((c : Thread nD τ).loc cc0_scratch1) ↦[(slotRect s).set]{fullShare} f) := by
  simp only [← slotPts_eq]
  unfold slotIn
  iintro ⟨%f, -, H⟩; iexists f; iexact H
theorem xg_join (c : Dev nD) (f₀ : Buf (Elt F) ((c : Thread nD τ).loc cc0_scratch1)) :
    (bigSep Finset.univ fun s : Fin 32 => slotIn m ρ c s) ⊢ (iprop(∃ f, xgPts c f) : sProp 𝕄) :=
  (bigSep_mono fun s _ => slot_some m ρ c s).trans
    (Ring.pointsTo_blocks_join_exists (ℓ := (c : Thread nD τ).loc cc0_scratch1) (fun s : Fin 32 => (slotRect s).set) slots_disjoint slots_cover f₀)
theorem xbf_split (c : Dev nD) : (xbfPts c (xcopy m ρ c) : sProp 𝕄) = iprop(rowPts m ρ c c ∗ each turns fun r => rowPts m ρ c (peer c r)) := by
  rw [each_turns, ← around c (rowPts m ρ c)]
  rw [show rowPts (F := F) m ρ c = fun t => _ from funext (rowPts_eq m ρ c)]
  exact Ring.pointsTo_blocks (ℓ := (c : Thread nD τ).loc cc0_scratch0) (fun t : Fin 32 => (rowsRect t).set) rows_disjoint rows_cover (xcopy m ρ c)

/-- All slots in: the receive buffer whole again, the rows copied within the device, the slots' cells closed. -/
theorem got_all (c : Dev nD) (f₀ : Buf (Elt F) ((c : Thread nD τ).loc cc0_scratch1)) : each slots (gotSlot m ρ c)
    ⊢ (iprop((∃ f, xgPts c f) ∗ rowPts m ρ c c ∗ bigSep Finset.univ fun s : Fin 32 => semVal (recvCell c s) 0) : sProp 𝕄) := by
  rw [each_slots]; unfold gotSlot recvPay
  rw [bigSep_sep', bigSep_sep', bigSep_univ_at (fun s : Fin 32 => if s = c then rowPts m ρ c c else iprop(emp)) c, if_pos rfl]
  iintro ⟨⟨Hs, Hr, -⟩, Hz⟩
  isplitl [Hs]; · iapply (xg_join m ρ c f₀); iexact Hs
  isplitl [Hr] <;> iassumption

/-! ## The body -/

theorem copy_step (K : Dev nD × Option KI → ℕ) (c : Dev nD) (src dst : Memref sig .tc .vmem S64x64 .bf16) (q : DmaSem sig)
    (hs : src = rows c) (hd : dst = slot c) (hq : q = recvS c)
    {hsrc : src.view.WordExact} {hdst : dst.view.WordExact} {hsem : DmaTarget.Typed (nD := nD) (τ := τ) .vmem (.dma q) (.here (p := (c : Thread nD τ).2) dst)}
    {k : PUnit → P F PUnit} {Q : PUnit → sProp 𝕄} :
    iprop(records m ρ K ∗ rowPts m ρ c c ∗ (∃ f, slotPts c c f) ∗ dutyTok ER (recvCell c c) 0 0)
      ⊢ iprop((cred (tallyAt (recvCell c c) () N) -∗ run c (k ⟨⟩) Q) -∗ run c (.op (.enqueueDma src (.here (p := (c : Thread nD τ).2) dst) (.dma q) hsrc hdst hsem) k) Q) := by
  subst hs hd hq
  iintro ⟨#HR, Hrow, ⟨%fd, Hslot⟩, Ht⟩ Hk
  ihave HV := (inv_recv m ρ K c c) $$ HR
  icases HV with ⟨#HI, #Hr⟩
  unfold rowPts slotPts
  iapply (Rounds.wp_copy_pointsTo 𝒱₀ ER (talk m ρ) (c : Thread nD τ) none (κ := K (c, some (.inr c))) (src := rows c) (dst := slot c) (q := fullShare) (fs := xcopy m ρ c) (r := 0) (d := 0) (fd := fd)
    (by rw [duties_recv]; exact Finset.mem_singleton_self _) () N rfl (amount_recv m ρ c c 0)
    (by
      rw [payload_recv]; unfold recvPay slotIn slotPts rowPts
      iintro ⟨H, Hr⟩
      isplitl [H]
      · iexists _
        isplitr
        swap
        · iexact H
        · ipureintro
          exact View.read_write_univ _ _
      · rw [if_pos rfl]; iexact Hr)) $$ [Hrow Hslot Ht]
  · isplitr; · iexact HI
    isplitl [Hrow]; · iexact Hrow
    isplitl [Hslot]; · iexact Hslot
    isplitl [Ht]; · iexact Ht
    iexact Hr
  iexact Hk

/-- The kernel's result on device `c`. -/
def outAt (c : Dev nD) : (cc0_stg2_0 : Ref sig .tc).ty.Contents (Elt F) :=
  swish (sumOver m ρ c slots (broadcast S64x2048 (Scalar.ofBits .f32 0x00000000#32)))

/-- What the protocol gives device `c` to start from: its positions, and the tokens of the duties it pays. -/
def linear (c : Dev nD) : sProp 𝕄 :=
  iprop((bigSep Finset.univ fun k : Option KI => atPos ER (kcell (c, k)) 0 ∅ 0)
    ∗ (bigSep Finset.univ fun r : Fin 31 => dutyTok ER (barCell (peer c r)) 0 r.rev) ∗ (bigSep Finset.univ fun r : Fin 31 => dutyTok ER (sendCell c r) 0 0)
    ∗ dutyTok ER (recvCell c c) 0 0 ∗ (bigSep Finset.univ fun r : Fin 31 => dutyTok ER (recvCell (peer c r) c) 0 0))
def ghost (K : Dev nD × Option KI → ℕ) (c : Dev nD) : sProp 𝕄 := iprop(records m ρ K ∗ linear c)
/-- What its body starts from: that at some names, its credit, and the levels. -/
def start (c : Dev nD) : sProp 𝕄 :=
  iprop((∃ K, ghost m ρ K c) ∗ cred (tallyAt (barCell c) () 31) ∗ (bigSep Finset.univ fun r : Fin 31 => cred (tallyAt (recvCell c (peer c r)) () N)) ∗ levAts L lv)

def Φ₀ (c : Dev nD) : sProp 𝕄 := iprop(start m ρ c ∗ (∃ f, xbfPts c f) ∗ ∃ f, xgPts c f)
/-- After the body: both buffers, and every cell closed at zero. -/
def Φ₁ (c : Dev nD) : sProp 𝕄 :=
  iprop((∃ f, xbfPts c f) ∗ (∃ f, xgPts c f) ∗ semVal (barCell c) 0 ∗ bigSep Finset.univ fun k : KI => semVal ((c : Thread nD τ), osem k) 0)

def t₀ : Fin cfg0.N := ⟨0, by rw [show cfg0.N = 1 from N_0]; decide⟩
theorem fin_N (t : Fin cfg0.N) : t = t₀ := by
  obtain ⟨t, ht⟩ := t; have : cfg0.N = 1 := N_0; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outAt m ρ c))

theorem hz : (![0, 0] : Fin 2 → Nat) = fun _ => 0 := funext fun a => by fin_cases a <;> rfl
theorem read_x (f : (cc0_stg0_0 : Ref sig .tc).ty.Contents (Elt F)) :
    (Memref.whole cc0_stg0_0 : Memref sig .tc .vmem S2048x64 .bf16).view.readAt (Elt F)
      (Rect.unit (s := S2048x64) ![0, 0] S2048x64.size inb_S2048x64_S2048x64_0_0).toLoadRect f = f :=
  Memref.readAt_unit_zero (Elt F) cc0_stg0_0 hz _ f
theorem write_x (f w : (cc0_scratch0 : Ref sig .tc).ty.Contents (Elt F)) :
    (xbf.access (Rect.unit (s := S2048x64) ![0, 0] S2048x64.size inb_S2048x64_S2048x64_0_0) : View sig .tc _ _ _).write (Elt F) f w Finset.univ = w :=
  Memref.write_access_unit_zero_univ (Elt F) cc0_scratch0 hz _ f w
theorem write_out (f w : (cc0_stg2_0 : Ref sig .tc).ty.Contents (Elt F)) :
    ((Memref.whole cc0_stg2_0 : Memref sig .tc .vmem S64x2048 .f32).access
      (Rect.unit (s := S64x2048) ![0, 0] S64x2048.size inb_S64x2048_S64x2048_0_0) : View sig .tc _ _ _).write (Elt F) f w Finset.univ = w :=
  Memref.write_access_unit_zero_univ (Elt F) cc0_stg2_0 hz _ f w
theorem recast {α : Type} (x : S2048x64.Idx → α) : shapeCast S2048x64 (shapeCast S2048x64 x shapeCasts_S2048x64_S2048x64) shapeCasts_S2048x64_S2048x64 = x := by
  rw [shapeCast_self, shapeCast_self]

theorem duties_idle (c : Dev nD) : ∀ r, 0 ≤ r → (talk (F := F) m ρ).duties ((c : Thread nD τ), osem (.inl 0)) r = ∅ := by
  intro r _
  rcases Nat.eq_zero_or_pos r with rfl | h
  · rw [duties_zero]; rfl
  · exact duties_later m ρ _ r h

theorem deviceId_run (c : Dev nD) (k : Dev nD → P F PUnit) (Q : PUnit → sProp 𝕄) : run c (.op .deviceId k) Q = run c (k c) Q := wp_deviceId 𝒱₀ _ none _

set_option maxHeartbeats 1600000 in
/-- The body, one rule per effect and one per loop. -/
theorem sound_body (c : Dev nD) (Kt : PUnit → sProp 𝕄) :
    iprop(bodyPre m ρ c ∗ (bodyPost m ρ c -∗ Kt ⟨⟩))
      ⊢ run c (body (Memref.whole cc0_stg0_0) (Memref.whole cc0_stg1_0) (Memref.whole cc0_stg2_0)) Kt := by
  unfold body bodyPre Φ₀ start ghost linear
  rw [deviceId_run]
  iintro ⟨⟨⟨⟨⟨%K, #HR, Hat, HtB, HtS, Hto, HtV⟩, HcB, HcV, #Hlev⟩, ⟨%fb, Hxbf⟩, ⟨%fg, Hxg⟩⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  ihave Hat := (Entails.of_eq (cells_eq (fun sm => atPos ER ((c : Thread nD τ), sm) 0 ∅ 0))) $$ Hat
  icases Hat with ⟨HatB, ⟨HatI, HatS⟩, HatV⟩
  unfold Dat.owesAt Pipeline.owesWithin
  icases Ho with ⟨%W, %hW, HO⟩
  rw [show (dats m ρ 0 c).owed t₀.castSucc = O₀ c from rfl]
  ihave Hxg := (xg_split c fg) $$ Hxg
  icases Hxg with ⟨Hown, Hslots⟩
  -- announcing itself
  iapply (announce_run m ρ K c (recvDues c turns) _ _ turns)
  simp only [each_turns]
  isplitr; · iexact HR
  isplitl [HtB]; · iexact HtB
  isplitl [Hslots]; · iexact Hslots
  isplitl [HO]; · unfold owesAny O₀; iexists W; iexact HO
  unfold owesAny
  iintro ⟨%W, HO⟩
  -- until everyone has
  ihave HI := (inv_bar m ρ K c) $$ HR
  icases HI with ⟨#HI, -⟩
  iapply (Rounds.wp_wait_rest_token 𝒱₀ ER (talk m ρ) (c : Thread nD τ) none (κ := K (c, none))
      (wpE_semWait_eq 𝒱₀ (c : Thread nD τ) none Set.univ) (Set.mem_univ _) () (O := recvDues c turns) (W := W) (R := 0) (m := 0) (T := ∅)
      (by rw [expect_bar]; decide)) $$ [HcB HO HatB]
  · isplitr; · iexact HI
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  ihave Hp := (Entails.of_eq (bigSep_sep' _ _ _)) $$ Hp
  icases Hp with ⟨Htheirs, -⟩
  -- its operand copied
  iapply (wp_load 𝒱₀ (c : Thread nD τ) none Set.univ (m := Memref.whole cc0_stg0_0) (Finset.subset_univ _)) $$ Hx; iintro Hx
  rw [read_x]
  unfold xbfPts
  iapply (wp_load 𝒱₀ (c : Thread nD τ) none Set.univ (m := xbf) (Finset.subset_univ _)) $$ Hxbf; iintro Hxbf
  iapply (wp_store 𝒱₀ (c : Thread nD τ) none Set.univ (m := xbf) (r := Rect.unit (s := S2048x64) ![0, 0] S2048x64.size inb_S2048x64_S2048x64_0_0) (Mk := Finset.univ) (Finset.subset_univ _)) $$ Hxbf; iintro Hxbf
  rw [write_x, recast]
  ihave Hrows := (Entails.of_eq (xbf_split m ρ c)) $$ [Hxbf]
  · unfold xbfPts xcopy; iexact Hxbf
  icases Hrows with ⟨Hrow, Hrows⟩
  -- its own block, to its own slot
  iapply (copy_step m ρ K c (ownRows c) (ownSlot c) (ownS c) (ownRows_eq c) (ownSlot_eq c) (ownS_eq c)) $$ [Hrow Hown Hto]
  · isplitr; · iexact HR
    isplitl [Hrow]; · iexact Hrow
    isplitl [Hown] <;> iassumption
  iintro Hco
  -- the other blocks, to the peers
  iapply (sendAll_run m ρ K c _ _ turns)
  simp only [each_turns]
  isplitr; · iexact HR
  isplitl [HtS]; · iexact HtS
  isplitl [HtV]; · iexact HtV
  isplitl [Hrows]; · iexact Hrows
  isplitl [Htheirs]; · iexact Htheirs
  isplitl [HO]; · unfold owesAny; iexists _; iexact HO
  iintro ⟨HO, HcS⟩
  -- the slots, one by one
  iapply (recvAll_run m ρ K c _ _ slots _)
  isplitr; · iexact HR
  isplitl [Hco HcV]
  · rw [each_slots, around c (fun s : Dev nD => cred (tallyAt (recvCell c s) () N))]
    isplitl [Hco] <;> iassumption
  isplitl [HatV]; · rw [each_slots]; iexact HatV
  isplitl [Hw]; · unfold wPts; iexact Hw
  isplitl [HO]; · iexact HO
  iintro ⟨HO, Hw, Hgot⟩
  ihave Hgot := (got_all m ρ c fg) $$ Hgot
  icases Hgot with ⟨Hxg, Hrow, HzV⟩
  -- the rows sent, back
  iapply (drainAll_run m ρ K c _ _ turns)
  simp only [each_turns]
  isplitr; · iexact HR
  isplitl [HcS]; · iexact HcS
  isplitl [HatS]; · iexact HatS
  isplitl [HO]; · iexact HO
  rw [bigSep_sep']
  iintro ⟨HO, Hrows, HzS⟩
  -- the result
  iapply (wp_load 𝒱₀ (c : Thread nD τ) none Set.univ (m := Memref.whole cc0_stg2_0) (Finset.subset_univ _)) $$ Hout; iintro Hout
  iapply (wp_store 𝒱₀ (c : Thread nD τ) none Set.univ (m := Memref.whole cc0_stg2_0) (r := Rect.unit (s := S64x2048) ![0, 0] S64x2048.size inb_S64x2048_S64x2048_0_0) (Mk := Finset.univ) (Finset.subset_univ _)) $$ Hout; iintro Hout
  rw [write_out]
  -- the two cells left close
  imod (Rounds.cell_close ER (talk m ρ) (Set.mem_univ (K (c, none))) (fun h => h) (R := 0 + 1) (duties_later m ρ (barCell c))) $$ [HatB] with HzB
  · isplitr; · iexact HI
    iexact HatB
  ihave HJ := (inv_at m ρ K (c, some (.inl 0))) $$ HR
  icases HJ with ⟨#HJ, -⟩
  imod (Rounds.cell_close ER (talk m ρ) (Set.mem_univ (K (c, some (.inl 0)))) (fun h => h) (R := 0) (duties_idle m ρ c)) $$ [HatI] with HzI
  · isplitr; · iexact HJ
    iexact HatI
  rw [wp_ret]; imodintro
  iapply Hk
  unfold bodyPost Φ₁ Dat.owesAt Pipeline.owesWithin
  rw [show (dats m ρ 0 c).owed t₀.succ = 0 from rfl]
  isplitl [Hrow Hrows Hxg HzB HzI HzS HzV]
  · isplitl [Hrow Hrows]
    · iexists (xcopy m ρ c); rw [xbf_split, each_turns]
      isplitl [Hrow] <;> iassumption
    isplitl [Hxg]; · iexact Hxg
    isplitl [HzB]; · iexact HzB
    rw [own_eq (fun sm => semVal ((c : Thread nD τ), sm) 0)]
    isplitl [HzI HzS]
    · isplitl [HzI] <;> iassumption
    iexact HzV
  isplitl [HO]
  · unfold owesAny; icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    unfold wPts; iexact Hw
  iexists _; isplitr; · (ipureintro; rfl)
  iexact Hout

theorem printed_run (c : Dev nD) : bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) xbf (Memref.isWhole_whole _) xg (Memref.isWhole_whole _) cc0_scratch2 cc0_scratch3)
    (fun _ => bodyPost m ρ c) := by
  rw [cc0_body_eq]
  iintro H
  iapply (sound_body m ρ c fun _ => bodyPost m ρ c)
  isplitl [H]; · iexact H
  iintro H; iexact H

/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact printed_run m ρ c

end Cert.Entered.Proof

end
-- ==== Proof.Launch.lean ====
/- The launch: the cells' ghost state minted and dealt, the credit each device gets for what the others owe it, and the run. -/
module

public import proofs.«01_k».proof.Proof.Body
public import Idealize.ShloMosaic.Lib.Pipeline.CollectiveSegs

@[expose] public section

set_option maxRecDepth 16384

noncomputable section

namespace Cert.Entered.Proof

open Cert.EnteredIdeal Cert.EnteredIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats (F := F) m ρ 0 c).share w = fullShare := by unfold Dat.share; split <;> rfl

theorem csem_inj : Function.Injective csem := by decide +kernel
theorem kcell_inj : Function.Injective (kcell : Dev nD × Option KI → GSem nD τ sig) := by
  rintro ⟨c, k⟩ ⟨c', k'⟩ h
  obtain rfl : c = c' := congrArg (fun g : GSem nD τ sig => g.1.1) h
  obtain rfl : k = k' := csem_inj (congrArg Prod.snd h)
  rfl
def ourCells : Finset (GSem nD τ sig) := Finset.univ.map ⟨kcell, kcell_inj⟩

/-- The duties of a device's cells: the turns announced to it, its sends, its slots. -/
abbrev Duty : Type := Fin 31 ⊕ Fin 31 ⊕ Fin 32
def dutyAt : Duty → SemLoc sig × D
  | .inl r => (.reg barS, r)
  | .inr (.inl r) => (.dma (sendS r), 0)
  | .inr (.inr s) => (.dma (recvS s), 0)
theorem dutyAt_inj : Function.Injective dutyAt := by decide +kernel
abbrev tokOf (cj : Dev nD × Duty) : GSem nD τ sig × ℕ × D := (((cj.1 : Thread nD τ), (dutyAt cj.2).1), 0, (dutyAt cj.2).2)
theorem tokOf_inj : Function.Injective tokOf := by
  rintro ⟨c, j⟩ ⟨c', j'⟩ h
  obtain rfl : c = c' := congrArg (fun x : GSem nD τ sig × ℕ × D => x.1.1.1) h
  obtain rfl : j = j' := dutyAt_inj (congrArg (fun x : GSem nD τ sig × ℕ × D => (x.1.2, x.2.2)) h)
  rfl
def ourToks : Finset (GSem nD τ sig × ℕ × D) := Finset.univ.map ⟨tokOf, tokOf_inj⟩

def u₀ : UU := (initOf (Pipeline.cells cfgs cellOf_inj) (Pipeline.launchToks cfgs cellOf_inj), initOf ourCells ourToks)

/-- The tokens of the duties of device `c`'s cells. -/
def toks (c : Dev nD) : sProp 𝕄 :=
  iprop((bigSep Finset.univ fun r : Fin 31 => dutyTok ER (barCell c) 0 r)
    ∗ (bigSep Finset.univ fun r : Fin 31 => dutyTok ER (sendCell c r) 0 0) ∗ (bigSep Finset.univ fun s : Fin 32 => dutyTok ER (recvCell c s) 0 0))

/-- What the launch deals device `c`. -/
def G (c : Dev nD) : sProp 𝕄 :=
  iprop((bigSep Finset.univ fun k : Option KI => roundState ER (talk m ρ) (kcell (c, k)) 0)
    ∗ (bigSep Finset.univ fun k : Option KI => iprop(atPos ER (kcell (c, k)) 0 ∅ 0 ∗ reached ER (kcell (c, k)) 0)) ∗ toks c)
/-- What becomes of it once all devices' is put together. -/
def G' (c : Dev nD) : sProp 𝕄 := iprop(∃ K, ghost m ρ K c)

theorem fund : BI.own (ER (initOf ourCells ourToks)) ⊢ (|==> bigSep Finset.univ (G m ρ) : sProp 𝕄) := by
  have hX (Φ : GSem nD τ sig → sProp 𝕄) : bigSep ourCells Φ = bigSep Finset.univ fun c : Dev nD => bigSep Finset.univ fun k : Option KI => Φ (kcell (c, k)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks; rw [bigSep_map, bigSep_univ_prod]
    exact bigSep_congr fun c _ => by
      unfold toks
      refine (BI.bigSep_univ_sum _).trans ?_
      congr 1
      exact BI.bigSep_univ_sum _
  iintro HX
  imod (Rounds.fund ER (talk m ρ) ourCells ourToks) $$ HX with ⟨Hst, Hr, Hat, Htok⟩
  imodintro
  ihave Hst' := (Entails.of_eq (hX fun g => roundState ER (talk m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The entry semaphore is the launch's one semaphore outside the kernel's scratch. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option KI => semVal (kcell (c, k)) 0 : sProp 𝕄) := by
  rw [unscopedSems0_eq, bigSep_opt]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (talk m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option KI => semVal (kcell (c, k)) 0) ∗ bigSep Finset.univ fun k : Option KI => roundState ER (talk m ρ) (kcell (c, k)) 0)
      ⊢ (|={Set.univ}=> bigSep Finset.univ fun k => iprop(∃ κ : ℕ, cellInv ER (talk m ρ) κ (kcell (c, k))) : sProp 𝕄) from by
        rw [← bigSep_sep']
        exact (bigSep_mono fun k _ => (Rounds.body_intro ER (talk m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens after dealing: each device holds those of the duties it pays. -/
def payToks (c : Dev nD) : sProp 𝕄 :=
  iprop((bigSep Finset.univ fun r : Fin 31 => dutyTok ER (barCell (peer c r)) 0 r.rev) ∗ (bigSep Finset.univ fun r : Fin 31 => dutyTok ER (sendCell c r) 0 0)
    ∗ dutyTok ER (recvCell c c) 0 0 ∗ (bigSep Finset.univ fun r : Fin 31 => dutyTok ER (recvCell (peer c r) c) 0 0))

/-- Turn by turn, what each device has of `r` for its peer in turn `rev r`, the peer has in turn `r`. -/
theorem swap_turns (Ψ : Dev nD → Dev nD → Fin 31 → sProp 𝕄) :
    (bigSep Finset.univ fun c : Dev nD => bigSep Finset.univ fun r : Fin 31 => Ψ c (peer c r) r)
      = bigSep Finset.univ fun c : Dev nD => bigSep Finset.univ fun r : Fin 31 => Ψ (peer c r) c r.rev := by
  rw [bigSep_univ_comm, bigSep_univ_comm (fun (c : Dev nD) (r : Fin 31) => Ψ (peer c r) c r.rev),
    bigSep_univ_equiv Fin.revPerm (fun r : Fin 31 => bigSep Finset.univ fun c : Dev nD => Ψ c (peer c r) r)]
  refine bigSep_congr fun r _ => ?_
  rw [bigSep_univ_equiv (rot r)]
  refine bigSep_congr fun c _ => ?_
  show Ψ (peer c r) (peer (peer c r) r.rev) r.rev = _
  rw [peer_rev]

theorem toks_around : (bigSep Finset.univ fun c : Dev nD => (toks c : sProp 𝕄)) = bigSep Finset.univ fun c : Dev nD => payToks c := by
  unfold toks payToks
  have hV (c : Dev nD) : (bigSep Finset.univ fun s : Fin 32 => (dutyTok ER (recvCell c s) 0 0 : sProp 𝕄))
      = iprop(dutyTok ER (recvCell c c) 0 0 ∗ bigSep Finset.univ fun r : Fin 31 => dutyTok ER (recvCell c (peer c r)) 0 0) :=
    around c fun s => dutyTok ER (recvCell c s) 0 0
  simp only [hV, bigSep_sep']
  rw [swap_turns (fun c _ r => (dutyTok ER (barCell c) 0 r : sProp 𝕄)), swap_turns (fun c c' _ => (dutyTok ER (recvCell c c') 0 0 : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Option KI → ℕ) (c : Dev nD) : (iprop(records m ρ K ∗ linear c) : sProp 𝕄) ⊢ G' m ρ c := by
  unfold G' ghost
  iintro H; iexists K; iexact H

theorem regroup :
    (bigSep Finset.univ fun c : Dev nD => iprop((bigSep Finset.univ fun k => iprop(∃ κ : ℕ, cellInv ER (talk m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option KI => iprop(∃ κ : ℕ, cellInv ER (talk m ρ) κ (kcell ck))),
    bigSep_congr (s := Finset.univ) (fun (c : Dev nD) _ => bigSep_sep' Finset.univ (fun k : Option KI => (atPos ER (kcell (c, k)) 0 ∅ 0 : sProp 𝕄)) (fun k => reached ER (kcell (c, k)) 0)),
    bigSep_sep', ← bigSep_univ_prod (fun ck : Dev nD × Option KI => (reached ER (kcell ck) 0 : sProp 𝕄)), toks_around]
  iintro ⟨HI, ⟨Hat, #HR⟩, Htok⟩
  ihave HK := (BI.bigSep_exists_pi Finset.univ (fun (ck : Dev nD × Option KI) (κ : ℕ) => (cellInv ER (talk m ρ) κ (kcell ck) : sProp 𝕄))) $$ HI
  icases HK with ⟨%K, #HI⟩
  iapply (with_persistent (R := records m ρ K) fun c _ => ghost_intro m ρ K c)
  isplitr
  · unfold records; isplitl; · iexact HI
    iexact HR
  · iapply (Entails.of_eq (show iprop((bigSep Finset.univ fun c : Dev nD => bigSep Finset.univ fun k : Option KI => atPos ER (kcell (c, k)) 0 ∅ 0)
        ∗ bigSep Finset.univ payToks) = (bigSep Finset.univ linear : sProp 𝕄) from (bigSep_sep' _ _ _).symm))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem barDues_eq (c : Dev nD) : barDues c turns = ∑ r : Fin 31, tallyAt (barCell (peer c r)) () 1 :=
  (Fin.sum_univ_def fun r : Fin 31 => (tallyAt (barCell (peer c r)) () 1 : CellTallies nD τ sig Unit)).symm
theorem recvDues_eq (c : Dev nD) : recvDues c turns = ∑ r : Fin 31, tallyAt (recvCell (peer c r) c) () N :=
  (Fin.sum_univ_def fun r : Fin 31 => (tallyAt (recvCell (peer c r) c) () N : CellTallies nD τ sig Unit)).symm

theorem cred_bar (c : Dev nD) : (bigSep Finset.univ fun _ : Fin 31 => (cred (tallyAt (barCell c) () 1) : sProp 𝕄)) = cred (tallyAt (barCell c) () 31) := by
  rw [← Pipeline.cred_finsetSum]
  congr 1
  have h : ∀ n : ℕ, n • (tallyAt (barCell c) () 1 : CellTallies nD τ sig Unit) = tallyAt (barCell c) () n := by
    intro n
    induction n with
    | zero => rw [zero_smul, tallyAt_zero]
    | succ n ih => rw [succ_nsmul, ih, tallyAt_add]
  rw [Finset.sum_const, Finset.card_univ, Fintype.card_fin, h]

theorem bar_creds (c : Dev nD) :
    (bigSep Finset.univ fun r : Fin 31 => (Pipeline.launchCred (fun d => tallyAt (barCell (peer d r)) () 1) c : sProp 𝕄))
      ⊢ bigSep Finset.univ fun _ : Fin 31 => (cred (tallyAt (barCell c) () 1) : sProp 𝕄) :=
  bigSep_mono fun r _ => Pipeline.launchCred_tallyAt (.reg barS) (fun d => peer d r) (fun d => peer d r.rev)
    (fun d => rev_peer d r) (fun d => peer_rev d r) () 1 c

theorem creds (c : Dev nD) : (Pipeline.launchCred O₀ c : sProp 𝕄)
    ⊢ iprop(cred (tallyAt (barCell c) () 31) ∗ bigSep Finset.univ fun r : Fin 31 => cred (tallyAt (recvCell c (peer c r)) () N)) := by
  have e : (O₀ : Dev nD → CellTallies nD τ sig Unit) = fun d => (∑ r : Fin 31, tallyAt (recvCell (peer d r) d) () N) + ∑ r : Fin 31, tallyAt (barCell (peer d r)) () 1 := by
    funext d; unfold O₀; rw [barDues_eq, recvDues_eq]
  rw [e, Pipeline.launchCred_add, Pipeline.launchCred_sum, Pipeline.launchCred_sum, ← cred_bar,
    bigSep_univ_equiv Fin.revPerm (fun r : Fin 31 => (cred (tallyAt (recvCell c (peer c r)) () N) : sProp 𝕄))]
  iintro ⟨HV, HB⟩
  isplitl [HB]
  · iapply (bar_creds c)
    iexact HB
  · iapply (Entails.of_eq (bigSep_congr (s := Finset.univ) fun (r : Fin 31) _ =>
      Pipeline.launchCred_of_sum (fun d => tallyAt (recvCell (peer d r) d) () N) (fun t => tallyAt (recvCell t (peer t r.rev)) () N)
        (by
          rw [← (rot r).sum_comp fun t => (tallyAt (recvCell t (peer t r.rev)) () N : CellTallies nD τ sig Unit)]
          refine Finset.sum_congr rfl fun d _ => ?_
          show _ = tallyAt (recvCell (peer d r) (peer (peer d r) r.rev)) () N
          rw [peer_rev])
        (fun d g hg => by
          by_contra h
          exact hg (tallyAt_ne_cell (fun e => h (by rw [e])) _ _)) c))
    iexact HV

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats (F := F) m ρ 0 c).Φ 0 := by
  rw [show (dats m ρ 0 c).Φ 0 = Φ₀ m ρ c from rfl, scopedRest0_eq]
  unfold Φ₀ xbfPts xgPts
  iintro ⟨Hs, -, H⟩
  isplitl [Hs]; · iexact Hs
  iexact H

theorem phi1_exit (c : Dev nD) :
    (dats (F := F) m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ xbfPts xgPts Pipeline.ownSems0
  iintro ⟨Hb, Hg, HzB, HzO⟩
  isplitl [HzB]; · iexact HzB
  isplitl [HzO]; · iexact HzO
  isplitl [Hb] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What each array ends up holding. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory, over any float values: the program terminates on every device, each array at its contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Entered.Proof

end
-- ==== Proof.Value.lean ====
/- What the result is, over the extended reals: device `c`'s result at row `i` and column `j` is `swish` of the product of the
   whole arrays at row `64 c + i` and column `j` — the 32 partial products of 64 terms are the one product of 2048 terms. -/
module

public import proofs.«01_k».proof.Proof.Launch
public import Idealize.ShloMosaic.Lib.MatmulPlain
public import Idealize.ShloMosaic.Lib.Layout
public import Idealize.ShloMosaic.Lib.Pipeline.Value

@[expose] public section

set_option maxRecDepth 16384

noncomputable section

namespace Cert.Entered.Proof

open Cert.EnteredIdeal Cert.EnteredIdeal.Gen
open Idealize.ShloMosaic Idealize.ShloMosaic.TcCoe Idealize.ShloMosaic.ValueIdx
open Idealize.SL.Sem
open Idealize.ShloMosaic.Pipeline (Dat Cfg Window)
open scoped BigOperators

section Any
variable {F : FTy → Type} [FloatOps F]
variable (m : (ℓ : Loc nD τ sig) → Buf (Elt F) ℓ) (ρ : Dev nD → PrngReg)

/-! ## The arrays after the run -/

/-- The operands are inputs: after the run they hold what they held. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

/-- Each window's one block is its whole array. -/
theorem whole_x (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem whole_w (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
theorem whole_out (f : (main_v1 : Ref sig .tc).ty.Contents (Elt F)) : (win0_2.blk (0 : Fin 1)).view.read (Elt F) f = f :=
  Memref.read_access_unit_zero (Elt F) main_v1 (funext fun a => by fin_cases a <;> decide) (fun a => by fin_cases a <;> decide) f

/-- The result array holds what the body left. -/
theorem finalA_out (c : Dev nD) : finalA m ρ c (2 : Fin 3) = outAt m ρ c := by
  refine (whole_out _).symm.trans ?_
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

theorem xcopy_eq (c : Dev nD) : xcopy m ρ c = m ((c : Thread nD τ).loc main_arg0) := by unfold xcopy xstg; exact whole_x _
theorem wstg_eq (c : Dev nD) : wstg m ρ c = m ((c : Thread nD τ).loc main_arg1) := by unfold wstg; exact whole_w _

/-! ## The blocks and the rows of the weights, by entry -/

/-- Row `i` of block `t`, among all rows. -/
def rowAt (t : Fin 32) (i : Fin 64) : Fin 2048 := ⟨64 * t.val + i.val, by omega⟩

theorem blk_apply (t s : Dev nD) (i k : Fin 64) :
    blk m ρ t s (ix2 i k) = m ((s : Thread nD τ).loc main_arg0) (ix2 (rowAt t i) k) := by
  unfold blk
  rw [xcopy_eq]
  show m ((s : Thread nD τ).loc main_arg0) _ = _
  congr 1
  funext a
  apply Fin.ext
  match a with
  | ⟨0, _⟩ => show 64 * t.val + 1 * i.val = 64 * t.val + i.val; omega
  | ⟨1, _⟩ => show 0 + 1 * k.val = k.val; omega

theorem wRows_apply (c s : Dev nD) (k : Fin 64) (j : Fin 2048) :
    wRows m ρ c s (ix2 k j) = m ((c : Thread nD τ).loc main_arg1) (ix2 (rowAt s k) j) := by
  unfold wRows
  rw [wstg_eq]
  show m ((c : Thread nD τ).loc main_arg1) _ = _
  congr 1
  funext a
  apply Fin.ext
  match a with
  | ⟨0, _⟩ => show 64 * s.val + 1 * k.val = 64 * s.val + k.val; omega
  | ⟨1, _⟩ => show 0 + 1 * j.val = j.val; omega

end Any

/-! ## The sum over the slots -/

variable (m : (ℓ : Loc nD τ sig) → Buf (Elt Ideal) ℓ) (ρ : Dev nD → PrngReg)

theorem addBlk_apply (acc : FVec Ideal S64x2048 .f32) (b : Vec Ideal S64x64 .bf16) (w : Vec Ideal S64x2048 .bf16) (i : Fin 64) (j : Fin 2048) :
    addBlk acc b w (ix2 i j) = acc (ix2 i j) + ∑ k : Fin 64, b (ix2 i k) * w (ix2 k j) := by
  unfold addBlk
  rw [shapeCast_self]
  show acc (ix2 i j) + FloatOps.matmul (DotDims.plain 64 64 2048) none b w (constant S64x2048 .f32 0x00000000#32) (ix2 i j) = _
  rw [Ideal.matmul_plain_apply]
  congr 1
  show Ideal.ofBits .f32 0x00000000#32 + _ = _
  rw [Ideal.ofBits_zero_f32, zero_add]

theorem sumOver_apply (c : Dev nD) (l : List (Fin 32)) (acc : FVec Ideal S64x2048 .f32) (i : Fin 64) (j : Fin 2048) :
    sumOver m ρ c l acc (ix2 i j) = acc (ix2 i j) + (l.map fun s => ∑ k : Fin 64, blk m ρ c s (ix2 i k) * wRows m ρ c s (ix2 k j)).sum := by
  induction l generalizing acc with
  | nil => simp [sumOver]
  | cons s l ih =>
    show sumOver m ρ c l (addBlk acc (blk m ρ c s) (wRows m ρ c s)) (ix2 i j) = _
    rw [ih, addBlk_apply, List.map_cons, List.sum_cons, add_assoc]

/-- 32 sums of 64 terms are one sum of 2048. -/
theorem sum_rowAt (f : Fin 2048 → EReal) : ∑ s : Fin 32, ∑ k : Fin 64, f (rowAt s k) = ∑ k, f k := by
  rw [← Fintype.sum_prod_type' fun (s : Fin 32) (k : Fin 64) => f (rowAt s k),
    ← Equiv.sum_comp (finProdFinEquiv : Fin 32 × Fin 64 ≃ Fin 2048) f]
  refine Finset.sum_congr rfl fun p _ => congrArg f (Fin.ext ?_)
  show 64 * p.1.val + p.2.val = p.2.val + 64 * p.1.val
  omega

/-- The product of the whole arrays, by entry. -/
def product (X W : (⟨2, ![2048, 2048]⟩ : Shape).Idx → EReal) (i j : Fin 2048) : EReal := ∑ k : Fin 2048, X (ix2 i k) * W (ix2 k j)

variable (X W : (⟨2, ![2048, 2048]⟩ : Shape).Idx → EReal)

/-- On devices that hold their columns of `X` and all of `W`, the result is `swish` of the product, at the device's rows. -/
theorem out_apply (h : ∀ c : Dev nD, m ((c : Thread nD τ).loc main_arg0) = Layout.block ⟨2, ![2048, 64]⟩ ⟨2, ![2048, 2048]⟩ 1 32 c X
      ∧ m ((c : Thread nD τ).loc main_arg1) = W) (c : Dev nD) (i : Fin 64) (j : Fin 2048) :
    outAt m ρ c (ix2 i j) = product X W (rowAt c i) j * Ideal.logistic (product X W (rowAt c i) j) := by
  have e : sumOver m ρ c slots (broadcast S64x2048 (Scalar.ofBits .f32 0x00000000#32)) (ix2 i j) = product X W (rowAt c i) j := by
    rw [sumOver_apply]
    show Ideal.ofBits .f32 0x00000000#32 + _ = _
    rw [Ideal.ofBits_zero_f32, zero_add]
    refine Eq.trans ?_ (sum_rowAt fun k => X (ix2 (rowAt c i) k) * W (ix2 k j))
    refine (Fin.sum_univ_def _).symm.trans (Finset.sum_congr rfl fun s _ => Finset.sum_congr rfl fun k _ => ?_)
    rw [blk_apply, wRows_apply, (h s).1, (h c).2, Layout.block_apply]
    congr 2
    funext a
    apply Fin.ext
    match a with
    | ⟨0, _⟩ => rfl
    | ⟨1, _⟩ => show s.val * 64 + k.val = 64 * s.val + k.val; omega
  show sumOver m ρ c slots _ (ix2 i j) * Ideal.logistic (sumOver m ρ c slots _ (ix2 i j)) = _
  rw [e]

end Cert.Entered.Proof

end
-- ==== Proof.Ref.lean ====
/- What the two references compute, entry by entry, and that it is what the kernel computes: `unclipped`'s result everywhere,
   `reference`'s where its clip leaves the product as it is. -/
module

public import proofs.«01_k».proof.Proof.Value
public import proofs.«01_k».proof.Proof.Gen.ReferenceIdeal.Run
public import proofs.«01_k».proof.Proof.Gen.UnclippedIdeal.Run
public import proofs.«01_k».proof.Proof.Gen.On_within_clip
public import Idealize.ShloMosaic.Lib.StackMember
public import Idealize.ShloMosaic.Lib.IdealHost

@[expose] public section

set_option maxRecDepth 16384

noncomputable section

namespace Cert.Entered.Proof

open Idealize.ShloMosaic Idealize.ShloMosaic.ValueIdx
open scoped BigOperators

/-- The shape of the whole arrays, and their type. -/
abbrev Whole : Shape := ⟨2, ![2048, 2048]⟩
abbrev WholeArr : Type := Whole.Idx → EReal

variable (X W : WholeArr)

/-! ## Over the extended reals -/

theorem exp_nonneg : ∀ y : EReal, 0 ≤ Ideal.exp y
  | ⊥ => le_refl _
  | ⊤ => le_top
  | (r : ℝ) => EReal.coe_nonneg.mpr (Real.exp_pos r).le

theorem one_add_exp_ne (y : EReal) : 1 + Ideal.exp y ≠ 0 := by
  have h : (1 : EReal) ≤ 1 + Ideal.exp y := le_add_of_nonneg_right (exp_nonneg y)
  intro e
  rw [e] at h
  exact absurd h (by norm_num)

/-- The quotient by `1 + exp (−y)` is the product with the logistic function. -/
theorem div_eq_logistic (y : EReal) : Ideal.div y (1 + Ideal.exp (-y)) = y * Ideal.logistic y := by
  unfold Ideal.logistic Ideal.div
  rw [if_neg (one_add_exp_ne _), if_neg (one_add_exp_ne _), one_mul]

theorem ofBits_sixty : Ideal.ofBits .f32 0x42700000#32 = ((60 : ℝ) : EReal) := by
  simp [Ideal.ofBits, Ideal.ieee, -EReal.coe_mul]; norm_num
theorem ofBits_neg_sixty : Ideal.ofBits .f32 0xC2700000#32 = ((-60 : ℝ) : EReal) := by
  simp [Ideal.ofBits, Ideal.ieee, -EReal.coe_mul]; norm_num

/-- Where the absolute value is at most 60 the clip changes nothing. -/
theorem clip_eq (y : EReal) (h : max y (-y) ≤ ((60 : ℝ) : EReal)) : min ((60 : ℝ) : EReal) (max ((-60 : ℝ) : EReal) y) = y := by
  have h1 : y ≤ ((60 : ℝ) : EReal) := (le_max_left _ _).trans h
  have h2 : ((-60 : ℝ) : EReal) ≤ y := by
    have := EReal.neg_le_neg_iff.mpr ((le_max_right _ _).trans h)
    rwa [neg_neg, ← EReal.coe_neg] at this
  rw [max_eq_right h2, min_eq_right h1]

/-! ## The references' terms -/

/-- The whole product as the host computes it. -/
theorem unclipped_dot (i j : Fin 2048) :
    Host.dotGeneral (F := Ideal) (φ₁ := .bf16) (φ₂ := .bf16) UnclippedIdeal.dot_S2048x2048_S2048x2048_S2048x2048_1_0_0_1_n_n none X W (ix2 i j) = product X W i j :=
  StackMember.dotGeneral_plain_apply (m := 2048) (k := 2048) (n := 2048) (φ₁ := .bf16) (φ₂ := .bf16) none X W i j
theorem reference_dot (i j : Fin 2048) :
    Host.dotGeneral (F := Ideal) (φ₁ := .bf16) (φ₂ := .bf16) ReferenceIdeal.dot_S2048x2048_S2048x2048_S2048x2048_1_0_0_1_n_n none X W (ix2 i j) = product X W i j :=
  StackMember.dotGeneral_plain_apply (m := 2048) (k := 2048) (n := 2048) (φ₁ := .bf16) (φ₂ := .bf16) none X W i j
theorem within_dot (i j : Fin 2048) :
    Host.dotGeneral (F := Ideal) (φ₁ := .bf16) (φ₂ := .bf16) On_within_clip.dot_S2048x2048_S2048x2048_S2048x2048_1_0_0_1_n_n none X W (ix2 i j) = product X W i j :=
  StackMember.dotGeneral_plain_apply (m := 2048) (k := 2048) (n := 2048) (φ₁ := .bf16) (φ₂ := .bf16) none X W i j

/-- `unclipped`'s result. -/
def unclippedOut : WholeArr :=
  Host.divf (F := Ideal) (φ := .f32) (Host.dotGeneral (φ₁ := .bf16) (φ₂ := .bf16) UnclippedIdeal.dot_S2048x2048_S2048x2048_S2048x2048_1_0_0_1_n_n none X W)
    (addf (broadcastInDim UnclippedIdeal.S2048x2048 ![] UnclippedIdeal.Gen.bcast_S_S2048x2048 (constant UnclippedIdeal.S_ .f32 0x3F800000#32))
      (Host.exp (Host.negf (Host.dotGeneral (φ₁ := .bf16) (φ₂ := .bf16) UnclippedIdeal.dot_S2048x2048_S2048x2048_S2048x2048_1_0_0_1_n_n none X W))))

/-- `reference`'s result. -/
def referenceOut : WholeArr :=
  Host.divf (F := Ideal) (φ := .f32) (Host.dotGeneral (φ₁ := .bf16) (φ₂ := .bf16) ReferenceIdeal.dot_S2048x2048_S2048x2048_S2048x2048_1_0_0_1_n_n none X W)
    (addf (broadcastInDim ReferenceIdeal.S2048x2048 ![] ReferenceIdeal.Gen.bcast_S_S2048x2048 (constant ReferenceIdeal.S_ .f32 0x3F800000#32))
      (Host.exp (Host.negf (minimumf (broadcastInDim ReferenceIdeal.S2048x2048 ![] ReferenceIdeal.Gen.bcast_S_S2048x2048 (id (constant ReferenceIdeal.S_ .f32 0x42700000#32)))
        (maximumf (broadcastInDim ReferenceIdeal.S2048x2048 ![] ReferenceIdeal.Gen.bcast_S_S2048x2048 (id (constant ReferenceIdeal.S_ .f32 0xC2700000#32)))
          (Host.dotGeneral (φ₁ := .bf16) (φ₂ := .bf16) ReferenceIdeal.dot_S2048x2048_S2048x2048_S2048x2048_1_0_0_1_n_n none X W))))))

theorem unclippedOut_apply (i j : Fin 2048) : unclippedOut X W (ix2 i j) = product X W i j * Ideal.logistic (product X W i j) := by
  rw [← div_eq_logistic, ← unclipped_dot, ← Ideal.ofBits_one_f32]
  rfl

theorem referenceOut_apply (i j : Fin 2048) :
    referenceOut X W (ix2 i j)
      = Ideal.div (product X W i j) (1 + Ideal.exp (-(min ((60 : ℝ) : EReal) (max ((-60 : ℝ) : EReal) (product X W i j))))) := by
  rw [← reference_dot, ← ofBits_sixty, ← ofBits_neg_sixty, ← Ideal.ofBits_one_f32]
  rfl

/-- Where the mask is set, the product is at most 60 in absolute value. -/
theorem within_spec (i j : Fin 2048) (h : On_within_clip.fn (F := Ideal) X W (ix2 i j) = 1#1) :
    max (product X W i j) (-(product X W i j)) ≤ ((60 : ℝ) : EReal) := by
  rw [← within_dot, ← ofBits_sixty]
  by_contra hn
  have e : On_within_clip.fn (F := Ideal) X W (ix2 i j) = 0#1 := by
    exact congrArg BitVec.ofBool (decide_eq_false hn)
  rw [e] at h
  exact absurd h (by decide)

theorem referenceOut_within (i j : Fin 2048) (h : On_within_clip.fn (F := Ideal) X W (ix2 i j) = 1#1) :
    referenceOut X W (ix2 i j) = product X W i j * Ideal.logistic (product X W i j) := by
  rw [referenceOut_apply, clip_eq _ (within_spec X W i j h), div_eq_logistic]

end Cert.Entered.Proof

end
-- ==== Proof.Claims.lean ====
/- The claims about the kernel behind its entry handshake, and about the two references: the run of Proof/Launch.lean read at the
   operands (frames) and at the result (values), against the references' runs. -/
module

public import proofs.«01_k».proof.Defs
public import proofs.«01_k».proof.Proof.Ref
public import proofs.«01_k».proof.Proof.Gen.Entered
public import Idealize.ShloMosaic.Lib.Quiescent

@[expose] public section

set_option maxRecDepth 16384

noncomputable section

namespace Cert.Entered.Proof

open Idealize.ShloMosaic Idealize.ShloMosaic.ValueIdx Idealize.SL.Sem

/-- The run, read at the operands and at the counters. -/
theorem run_frame {F : FTy → Type} [FloatOps F] (m : (ℓ : Loc EnteredIdeal.nD EnteredIdeal.τ EnteredIdeal.sig) → Buf (Elt F) ℓ)
    (ρ : Dev EnteredIdeal.nD → PrngReg) :
    θ_run EnteredIdeal.defs (onTc (τ := EnteredIdeal.τ) (EnteredIdeal.main (F := F))) ⟨m, fun _ => 0, ρ⟩ (fun r =>
      (∀ c : Dev EnteredIdeal.nD, r.2.mem ((c.tc : Thread EnteredIdeal.nD EnteredIdeal.τ).loc EnteredIdeal.main_arg0) = m (c.tc.loc EnteredIdeal.main_arg0)
        ∧ r.2.mem ((c.tc : Thread EnteredIdeal.nD EnteredIdeal.τ).loc EnteredIdeal.main_arg1) = m (c.tc.loc EnteredIdeal.main_arg1))
      ∧ r.2.sem = fun _ => 0) :=
  (θ_run EnteredIdeal.defs _ _).mono
    (fun _ h => ⟨fun c => ⟨(h.1 c (0 : Fin 3)).trans (finalA_x m ρ c), (h.1 c (1 : Fin 3)).trans (finalA_w m ρ c)⟩, h.2⟩)
    (run_main m ρ)

/-- Over the extended reals: the frame of the kernel behind its handshake. -/
theorem frame_enteredIdeal : Cert.quiescent_EnteredIdeal := fun m ρ _ => run_frame (F := Ideal) m ρ

/-- The two printed programs have one text: their bodies are one function, and so are their definitions. -/
theorem entered_body_eq {F : FTy → Type} [FloatOps F] :
    @Entered.cc0_body F _ Entered.Gen.facts = @EnteredIdeal.cc0_body F _ EnteredIdeal.Gen.facts := rfl
theorem entered_defs_eq {F : FTy → Type} [FloatOps F] : Entered.defs₀ (F := F) = EnteredIdeal.defs₀ (F := F) := by
  unfold Entered.defs₀ EnteredIdeal.defs₀
  congr 1
  funext l x
  match l, x with
  | 0, (t, s) =>
    exact congrFun (congrFun (congrFun (congrFun (congrFun (congrFun (congrFun (congrFun (congrFun (congrFun (congrFun (congrFun
      entered_body_eq _) _) _) _) _) _) _) _) _) _) _) _

/-- With the words of the chip: the run proved over any float values. -/
theorem frame_entered : Cert.quiescent_Entered := by
  intro m ρ _
  have h := run_frame (F := Bits) m ρ
  unfold EnteredIdeal.defs at h
  rw [← entered_defs_eq] at h
  exact h

/-- The references' frames: they declare no semaphore. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- An index of a device's result in the whole result. -/
theorem block_ix2 {α : Type} (v : Whole.Idx → α) (c : Dev EnteredIdeal.nD) (h : Layout.Tiles ⟨2, ![64, 2048]⟩ ⟨2, ![2048, 2048]⟩ 0 32)
    (i : Fin 64) (j : Fin 2048) : Layout.block ⟨2, ![64, 2048]⟩ ⟨2, ![2048, 2048]⟩ 0 32 c v h (ix2 i j) = v (ix2 (rowAt c i) j) := by
  rw [Layout.block_apply]
  congr 1
  funext a
  apply Fin.ext
  match a with
  | ⟨0, _⟩ => show c.val * 64 + i.val = 64 * c.val + i.val; omega
  | ⟨1, _⟩ => rfl

/-- The kernel behind its handshake computes `unclipped`: each device its rows. -/
theorem algebraic_unclipped : Cert.algebraic_EnteredIdeal_UnclippedIdeal := by
  intro m ρ m' ρ' _ hagree
  refine ⟨unclippedOut (m' ((Dev.tc 0).loc UnclippedIdeal.main_arg0)) (m' ((Dev.tc 0).loc UnclippedIdeal.main_arg1)), ?_, ?_⟩
  · refine (θ_run Cert.EnteredIdeal.defs _ _).mono
      (fun _ h c => ⟨(h.1 c (2 : Fin 3)).trans ((finalA_out m ρ c).trans ?_), (h.1 c (0 : Fin 3)).trans (finalA_x m ρ c),
        (h.1 c (1 : Fin 3)).trans (finalA_w m ρ c)⟩) (run_main (F := Ideal) m ρ)
    funext x
    obtain ⟨i, j, rfl⟩ : ∃ (i : Fin 64) (j : Fin 2048), x = ix2 i j := ⟨x 0, x 1, eq_ix2 x⟩
    exact (out_apply m ρ _ _ hagree c i j).trans ((unclippedOut_apply _ _ _ _).symm.trans (block_ix2 _ c _ i j).symm)
  · exact (θ_run Cert.UnclippedIdeal.defs _ _).mono (fun _ h => h 0) (Cert.UnclippedIdeal.Value.run (F := Ideal) m' ρ')

/-- Where the clip leaves the product as it is, the kernel behind its handshake computes `reference`. -/
theorem algebraic_reference : Cert.algebraic_EnteredIdeal_ReferenceIdeal_on_within_clip := by
  intro m ρ m' ρ' _ hagree
  refine ⟨referenceOut (m' ((Dev.tc 0).loc ReferenceIdeal.main_arg0)) (m' ((Dev.tc 0).loc ReferenceIdeal.main_arg1)), ?_, ?_⟩
  · refine (θ_run Cert.EnteredIdeal.defs _ _).mono
      (fun _ h c => ⟨fun x hx => (congrFun ((h.1 c (2 : Fin 3)).trans (finalA_out m ρ c)) x).trans ?_, (h.1 c (0 : Fin 3)).trans (finalA_x m ρ c),
        (h.1 c (1 : Fin 3)).trans (finalA_w m ρ c)⟩) (run_main (F := Ideal) m ρ)
    obtain ⟨i, j, rfl⟩ : ∃ (i : Fin 64) (j : Fin 2048), x = ix2 i j := ⟨x 0, x 1, eq_ix2 x⟩
    exact (out_apply m ρ _ _ hagree c i j).trans
      ((referenceOut_within _ _ _ _ ((block_ix2 _ c _ i j).symm.trans hx)).symm.trans (block_ix2 _ c _ i j).symm)
  · exact (θ_run Cert.ReferenceIdeal.defs _ _).mono (fun _ h => ⟨fun x _ => congrFun (h 0).1 x, (h 0).2⟩)
      (Cert.ReferenceIdeal.Value.run (F := Ideal) m' ρ')

end Cert.Entered.Proof

end
-- ==== Proof.FiledCompact.lean ====
/- The kernel's body in short, as filed: no entry handshake. The printed body spells out its 31 sends, its 32 receives and its
   31 closing waits one after the other; here each run of them is a loop over a list of turns, and the printed body is shown
   to be these loops (`cc0_body_eq`). The modules Proof/Filed*.lean speak of this program; it differs from the one behind the
   handshake in its semaphores and in its body, so they name its places anew. -/
module

public import proofs.«01_k».proof.Proof.Gen.KernelIdeal

@[expose] public section

set_option maxRecDepth 16384
set_option synthInstance.maxSize 4096

noncomputable section

namespace Cert.Filed.Proof

open Idealize.ShloMosaic Idealize.SL.Sem
open Cert.KernelIdeal Cert.KernelIdeal.Gen

variable {F : FTy → Type} [FloatOps F]

/-! ## The devices and places a turn names -/

/-- The device `w` places after `c` on the ring, by the integer operations the kernel computes it with. -/
def after (c : Dev nD) (w : BitVec 32) : Nat :=
  let v2 : BitVec 32 := Scalar.remsi (Scalar.divsi (Dev.word c) 1#32) 32#32
  let v4 : BitVec 32 := Scalar.addi v2 w
  let v6 : BitVec 32 := Scalar.select (Scalar.cmpi .eq 32#32 0#32) 1#32 32#32
  let v7 : BitVec 32 := Scalar.remsi v4 v6
  let v12 : BitVec 1 := Scalar.andi (Scalar.xori (Scalar.cmpi .slt v7 0#32) (Scalar.cmpi .slt v6 0#32)) (Scalar.cmpi .ne v7 0#32)
  let v14 : BitVec 32 := Scalar.select v12 (Scalar.addi v7 v6) v7
  (Scalar.addi 0#32 (Scalar.muli v14 1#32)).toNat

theorem after_lt : ∀ (c : Dev nD) (r : Fin 31), after c (BitVec.ofNat 32 (1 + r.val)) < nD := by decide +kernel

/-- The device turn `r` of device `c` speaks to. -/
def peer (c : Dev nD) (r : Fin 31) : Dev nD := ⟨after c (BitVec.ofNat 32 (1 + r.val)), after_lt c r⟩

/-- The kernel's own scratch: the copy of the operand it sends from, and the slots it receives into. -/
abbrev xbf : Memref sig .tc .vmem S2048x64 .bf16 := Memref.whole cc0_scratch0
abbrev xg : Memref sig .tc .vmem S32x64x64 .bf16 := Memref.whole cc0_scratch1

theorem hxbf : xbf.IsWhole := Memref.isWhole_whole _
theorem hxg : xg.IsWhole := Memref.isWhole_whole _

/-- Row block `t` of the copy, by the offsets a turn computes: this device's own rows, and turn `r`'s. -/
abbrev ownRows (c : Dev nD) : Memref sig .tc .vmem S64x64 .bf16 :=
  xbf.slice (Rect.unit (s := S2048x64) (k0_off3 c) S64x64.size (k0_off3_inb c)) (fun _ => rfl)
abbrev sentRows (c : Dev nD) (r : Fin 31) : Memref sig .tc .vmem S64x64 .bf16 :=
  xbf.slice (Rect.unit (s := S2048x64) (k0_off4 c (BitVec.ofNat 32 (1 + r.val))) S64x64.size (k0_off4_inb c r)) (fun _ => rfl)
/-- The first rows of the copy, which a receive names for the size of what it waits for. -/
abbrev someRows : Memref sig .tc .vmem S64x64 .bf16 :=
  xbf.slice (Rect.unit (s := S2048x64) ![0, 0] S64x64.size inb_S2048x64_S64x64_0_0) (fun _ => rfl)
/-- The slot a device's own number names: where it puts its block, here or on another device. -/
abbrev ownSlot (c : Dev nD) : Memref sig .tc .vmem S64x64 .bf16 :=
  (xg.slice (Rect.unit (s := S32x64x64) (k0_off2 c) S1x64x64.size (k0_off2_inb c)) (fun _ => rfl)).squeeze S64x64 squeezes_S1x64x64_S64x64

theorem slot_inb : ∀ (s : Fin 32) a, (![s.val, 0, 0] : Fin 3 → Nat) a + S1x64x64.size a ≤ S32x64x64.size a := by decide
theorem sem_inb : ∀ (s : Fin 32) a, (![s.val] : Fin 1 → Nat) a + S1.size a ≤ S32.size a := by decide
theorem turn_inb : ∀ (r : Fin 31) a, (![1 + r.val] : Fin 1 → Nat) a + S1.size a ≤ S32.size a := by decide
theorem w_inb : ∀ (s : Fin 32) a, (![64 * s.val, 0] : Fin 2 → Nat) a + S64x2048.size a ≤ S2048x2048.size a := by decide
theorem slot_words : ∀ s : Fin 32, (Rect.unit (s := S32x64x64) ![s.val, 0, 0] S1x64x64.size (slot_inb s)).WholeWords (EltTy.packing .bf16) := by
  decide +kernel

abbrev slotRect (s : Fin 32) := Rect.unit (s := S32x64x64) ![s.val, 0, 0] S1x64x64.size (slot_inb s)
abbrev wRect (s : Fin 32) := Rect.unit (s := S2048x2048) ![64 * s.val, 0] S64x2048.size (w_inb s)
abbrev slot (s : Fin 32) : Memref sig .tc .vmem S64x64 .bf16 :=
  (xg.slice (slotRect s) (fun _ => rfl)).squeeze S64x64 squeezes_S1x64x64_S64x64

/-- The semaphores: turn `r`'s sends, what arrives in slot `s`, what goes into the slot of a device's own number. -/
abbrev sendS (r : Fin 31) : DmaSem sig := ((cc0_scratch2.slice (Rect.unit (s := S32) ![1 + r.val] S1.size (turn_inb r))).squeeze S_ squeezes_S1_S_).sem
abbrev recvS (s : Fin 32) : DmaSem sig := ((cc0_scratch3.slice (Rect.unit (s := S32) ![s.val] S1.size (sem_inb s))).squeeze S_ squeezes_S1_S_).sem
abbrev ownS (c : Dev nD) : DmaSem sig := ((cc0_scratch3.slice (Rect.unit (s := S32) (k0_off1 c) S1.size (k0_off1_inb c))).squeeze S_ squeezes_S1_S_).sem

/-! ## The loops -/

/-- The programs of the kernel's thread. -/
abbrev P (F : FTy → Type) [FloatOps F] (α : Type) := Prog (TpuEff nD τ sig (Elt F) Λ₀ .tc) α

/-- Send each turn's rows to its peer, into the slot of this device's number. -/
def sendAll (c : Dev nD) (l : List (Fin 31)) (k : P F PUnit) : P F PUnit :=
  l.foldr (fun r k => .op (.enqueueDma (sentRows c r) (.remote (Dev.tc (peer c r)) (ownSlot c) (.dma (sendS r))) (.dma (ownS c))
    (hxbf.wordExact_slice rfl _ (k0_off4_wordsbf16 c r)) ((hxg.wordExact_slice rfl _ (k0_off2_wordsbf16 c)).reshape _ _)
    ⟨⟨rfl, Or.inl rfl⟩, trivial⟩) fun _ => k) k

/-- One receive's contribution: the block received times the rows of the weights it belongs to. -/
def addTurn (acc : FVec F S64x2048 .f32) (b : Vec F S1x64x64 .bf16) (w : Vec F S64x2048 .bf16) : FVec F S64x2048 .f32 :=
  addf acc (matmul dot_S64x64_S64x2048_S64x2048_1_0_0_1_n_n none (shapeCast S64x64 b shapeCasts_S1x64x64_S64x64)
    (shapeCast S64x2048 w shapeCasts_S64x2048_S64x2048) (constant S64x2048 .f32 0x00000000#32))

/-- Wait for each slot in turn and add its contribution; go on with the sum. -/
def recvAll (arg1 : Memref sig .tc .vmem S2048x2048 .bf16) (l : List (Fin 32)) (k : FVec F S64x2048 .f32 → P F PUnit) :
    FVec F S64x2048 .f32 → P F PUnit :=
  l.foldr (fun s k acc =>
    .op (.waitDma2 (recvS s) someRows (slot s) (hxbf.wordExact_slice rfl _ wordsbf16_S2048x64_S64x64_0_0)
      ((hxg.wordExact_slice rfl _ (slot_words s)).reshape _ _)) fun _ =>
    .op (.load xg (slotRect s).toLoadRect (View.loadsAt_vmem h_S1x64x64)) fun b =>
    .op (.load arg1 (wRect s).toLoadRect (View.loadsAt_vmem h_S64x2048)) fun w =>
    k (addTurn acc b w)) k

/-- Wait until each turn's rows have left. -/
def drainAll (c : Dev nD) (l : List (Fin 31)) (k : P F PUnit) : P F PUnit :=
  l.foldr (fun r k => .op (.waitDma2 (sendS r) (ownSlot c) (sentRows c r) ((hxg.wordExact_slice rfl _ (k0_off2_wordsbf16 c)).reshape _ _)
    (hxbf.wordExact_slice rfl _ (k0_off4_wordsbf16 c r))) fun _ => k) k

/-- The turns, and the slots, in order. -/
abbrev turns : List (Fin 31) := [0, 1, 2, 3, 4, 5, 6, 7, 8, 9, 10, 11, 12, 13, 14, 15, 16, 17, 18, 19, 20, 21, 22, 23, 24, 25, 26, 27, 28, 29, 30]
abbrev slots : List (Fin 32) := [0, 1, 2, 3, 4, 5, 6, 7, 8, 9, 10, 11, 12, 13, 14, 15, 16, 17, 18, 19, 20, 21, 22, 23, 24, 25, 26, 27, 28, 29, 30, 31]

/-- What the sum becomes on the way out. -/
def swish (a : FVec F S64x2048 .f32) : FVec F S64x2048 .f32 := mulf a (logistic a)

/-- The whole body, over the three staging buffers. -/
def body (arg0 : Memref sig .tc .vmem S2048x64 .bf16) (arg1 : Memref sig .tc .vmem S2048x2048 .bf16)
    (arg2 : Memref sig .tc .vmem S64x2048 .f32) : P F PUnit :=
  .op .deviceId fun c =>
  .op (.load arg0 (Rect.unit (s := S2048x64) ![0, 0] S2048x64.size inb_S2048x64_S2048x64_0_0).toLoadRect (View.loadsAt_vmem h_S2048x64)) fun x =>
  .op (.load xbf (Rect.unit (s := S2048x64) ![0, 0] S2048x64.size inb_S2048x64_S2048x64_0_0).toLoadRect (View.loadsAt_vmem h_S2048x64)) fun _ =>
  .op (.store xbf (Rect.unit (s := S2048x64) ![0, 0] S2048x64.size inb_S2048x64_S2048x64_0_0)
    (shapeCast S2048x64 (shapeCast S2048x64 x shapeCasts_S2048x64_S2048x64) shapeCasts_S2048x64_S2048x64) Finset.univ
    (View.stores_vmem h_S2048x64 (hxbf.storeExact_slice rfl _ packedbf16_S2048x64_S2048x64_0_0) (fun _ => rfl)) (.inl rfl)) fun _ =>
  .op (.enqueueDma (ownRows c) (.here (ownSlot c)) (.dma (ownS c)) (hxbf.wordExact_slice rfl _ (k0_off3_wordsbf16 c))
    ((hxg.wordExact_slice rfl _ (k0_off2_wordsbf16 c)).reshape _ _) ⟨Or.inl rfl, trivial⟩) fun _ =>
  sendAll c turns <|
  recvAll arg1 slots (fun acc =>
    drainAll c turns <|
    .op (.load arg2 (Rect.unit (s := S64x2048) ![0, 0] S64x2048.size inb_S64x2048_S64x2048_0_0).toLoadRect (View.loadsAt_vmem h_S64x2048)) fun _ =>
    .op (.store arg2 (Rect.unit (s := S64x2048) ![0, 0] S64x2048.size inb_S64x2048_S64x2048_0_0) (swish acc) Finset.univ
      (View.stores_vmem_bits_univ h_S64x2048 rfl) (.inl rfl)) fun _ => .ret ⟨⟩)
    (broadcast S64x2048 (Scalar.ofBits .f32 0x00000000#32))

/-- The printed body is these loops. -/
theorem cc0_body_eq (arg0 : Memref sig .tc .vmem S2048x64 .bf16) (harg0 : arg0.IsWhole) (arg1 : Memref sig .tc .vmem S2048x2048 .bf16)
    (harg1 : arg1.IsWhole) (arg2 : Memref sig .tc .vmem S64x2048 .f32) (harg2 : arg2.IsWhole) :
    cc0_body (F := F) arg0 harg0 arg1 harg1 arg2 harg2 xbf (Memref.isWhole_whole _) xg (Memref.isWhole_whole _) cc0_scratch2 cc0_scratch3
      = body arg0 arg1 arg2 := rfl

end Cert.Filed.Proof

end
-- ==== Proof.FiledSched.lean ====
/- The protocol of the kernel as filed. No device waits until its peers have entered, so a copy may arrive in a device's receive
   buffer before the device has entered the kernel, and the entry then forgets it. The proof of the frames allows for this: a
   device's receive buffer lives in an invariant from the launch on, its contents unknown, and nobody ever says what it holds.

   Device `c` in turn `r` speaks to `peer c r`. The cells of a device: the 31 semaphores its sends complete on, the 32 its
   slots complete on. One round each.
   * The send cell of turn `r` has one duty, paid by the copy itself: it gives the rows back that were being read.
   * The cell of slot `s` of `t` has one duty, paid by the copy from `s`: it hands over `s`'s pass to the receive buffer of `t`
     (and for `s = t`, a copy within the device, the rows read as well).
   A pass to `t`'s buffer, of which there is one per slot, opens the invariant (`window`): the buffer is in it for as long as
   not all 32 passes have been put in its place. So every sender writes, `t` enters and reads by a pass, and in the end, when
   all the passes have come to it, `t` takes the buffer out. -/
module

public import proofs.«01_k».proof.Proof.FiledCompact
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Filed.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The turns -/

theorem peer_val : ∀ (c : Dev nD) (r : Fin 31), (peer c r).val = (c.val + 1 + r.val) % 32 := by decide +kernel
theorem peer_rev (c : Dev nD) (r : Fin 31) : peer (peer c r) r.rev = c := by
  apply Fin.ext
  have h := peer_val c r; have h' := peer_val (peer c r) r.rev
  have hr := Fin.val_rev r; have hc : c.val < 32 := c.isLt; have hl := r.isLt
  omega
theorem rev_peer (c : Dev nD) (r : Fin 31) : peer (peer c r.rev) r = c := by
  have h := peer_rev c r.rev; rwa [Fin.rev_rev] at h
theorem peer_ne (c : Dev nD) (r : Fin 31) : peer c r ≠ c := by
  intro h
  have h1 := congrArg Fin.val h; have h2 := peer_val c r; have hc : c.val < 32 := c.isLt; have hl := r.isLt
  omega
theorem peer_inj (c : Dev nD) : Function.Injective (peer c) := by
  intro r r' h
  have h1 := congrArg Fin.val h; have h2 := peer_val c r; have h3 := peer_val c r'
  have hc : c.val < 32 := c.isLt; have hl := r.isLt; have hl' := r'.isLt
  apply Fin.ext; omega
/-- Every device is `c` or one of its peers. -/
theorem univ_eq (c : Dev nD) : (Finset.univ : Finset (Dev nD)) = insert c (Finset.univ.map ⟨peer c, peer_inj c⟩) := by
  symm
  rw [← Finset.card_eq_iff_eq_univ, Finset.card_insert_of_notMem, Finset.card_map, Finset.card_univ, Fintype.card_fin]
  · simp
  · intro h
    obtain ⟨r, -, hr⟩ := Finset.mem_map.mp h
    exact peer_ne c r hr
/-- All devices step `r + 1` places on together. -/
def rot (r : Fin 31) : Dev nD ≃ Dev nD := ⟨fun c => peer c r, fun c => peer c r.rev, fun c => peer_rev c r, fun c => rev_peer c r⟩

/-! ## The places -/

theorem rows_inb : ∀ (t : Fin 32) a, (![64 * t.val, 0] : Fin 2 → Nat) a + S64x64.size a ≤ S2048x64.size a := by decide
abbrev rowsRect (t : Fin 32) := Rect.unit (s := S2048x64) ![64 * t.val, 0] S64x64.size (rows_inb t)
/-- Row block `t` of a device's copy of its operand. -/
abbrev rows (t : Fin 32) : Memref sig .tc .vmem S64x64 .bf16 := xbf.slice (rowsRect t) (fun _ => rfl)

theorem off4_eq : ∀ (c : Dev nD) (r : Fin 31), k0_off4 c (BitVec.ofNat 32 (1 + r.val)) = ![64 * (peer c r).val, 0] := by decide +kernel
theorem sentRows_eq (c : Dev nD) (r : Fin 31) : sentRows c r = rows (peer c r) := by
  have : ∀ (o : Fin 2 → Nat) (h : ∀ a, o a + S64x64.size a ≤ S2048x64.size a), o = ![64 * (peer c r).val, 0] →
      xbf.slice (Rect.unit (s := S2048x64) o S64x64.size h) (fun _ => rfl) = rows (peer c r) := by rintro o h rfl; rfl
  exact this _ _ (off4_eq c r)
theorem ownRows_eq (c : Dev nD) : ownRows c = rows c := by
  have : ∀ (o : Fin 2 → Nat) (h : ∀ a, o a + S64x64.size a ≤ S2048x64.size a), o = ![64 * c.val, 0] →
      xbf.slice (Rect.unit (s := S2048x64) o S64x64.size h) (fun _ => rfl) = rows c := by rintro o h rfl; rfl
  exact this _ _ (k0_off3_eq c)
theorem ownSlot_eq (c : Dev nD) : ownSlot c = slot c := by
  have : ∀ (o : Fin 3 → Nat) (h : ∀ a, o a + S1x64x64.size a ≤ S32x64x64.size a), o = ![c.val, 0, 0] →
      (xg.slice (Rect.unit (s := S32x64x64) o S1x64x64.size h) (fun _ => rfl)).squeeze S64x64 squeezes_S1x64x64_S64x64 = slot c := by
    rintro o h rfl; rfl
  exact this _ _ (k0_off2_eq c)
theorem ownS_eq : ∀ c : Dev nD, ownS c = recvS c := by decide +kernel

theorem rows_set (t : Fin 32) : (rows t).view.set = (rowsRect t).set := View.set_slice_whole _ _

theorem rows_disjoint : ∀ t t' : Fin 32, t ≠ t' → Disjoint (rowsRect t).set (rowsRect t').set :=
  Ring.lead_disjoint (s := S2048x64) (NB := 32) 0 64 (fun t => ![64 * t.val, 0]) S64x64.size rows_inb (fun _ => rfl) rfl
theorem rows_cover : Finset.univ.biUnion (fun t : Fin 32 => (rowsRect t).set) = Finset.univ :=
  Ring.lead_cover (s := S2048x64) (NB := 32) 0 64 (fun t => ![64 * t.val, 0]) S64x64.size rows_inb (fun _ => rfl)
    (fun t a ha => by fin_cases a <;> first | exact absurd rfl ha | rfl) rfl (fun a ha => by fin_cases a <;> first | exact absurd rfl ha | rfl) rfl

/-! ## The resource algebra: the pipeline library's copy and the protocol's (`false` a cell's duty, `true` naming its pass) -/

abbrev D : Type := Bool
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev sendCell (c : Dev nD) (r : Fin 31) : GSem nD τ sig := ((c : Thread nD τ), .dma (sendS r))
abbrev recvCell (c : Dev nD) (s : Fin 32) : GSem nD τ sig := ((c : Thread nD τ), .dma (recvS s))

/-- The kernel's own semaphores, two arrays of 32: those its sends complete on (the first unused), those of its slots. -/
abbrev KI : Type := Fin 32 ⊕ Fin 32
def oq : KI → DmaSem sig
  | .inl k => ⟨3 + k.val, by have := k.isLt; show 3 + k.val < 67; omega⟩
  | .inr s => recvS s
abbrev osem (k : KI) : SemLoc sig := .dma (oq k)
abbrev kcell (ck : Dev nD × KI) : GSem nD τ sig := ((ck.1 : Thread nD τ), osem ck.2)

/-- What a DMA semaphore is for: a turn's sends, a slot, or neither. -/
def role (q : DmaSem sig) : Option (Fin 31 ⊕ Fin 32) :=
  if h : 4 ≤ q.val ∧ q.val < 35 then some (.inl ⟨q.val - 4, by omega⟩)
  else if h : 35 ≤ q.val ∧ q.val < 67 then some (.inr ⟨q.val - 35, by omega⟩) else none
theorem role_send : ∀ r, role (sendS r) = some (.inl r) := by decide +kernel
theorem role_recv : ∀ s, role (recvS s) = some (.inr s) := by decide +kernel
theorem oq_send : ∀ r : Fin 31, oq (.inl r.succ) = sendS r := by decide +kernel

/-- What one copy of a block counts. -/
abbrev N : ℕ := (slot 0).view.dmaCredit
theorem N_pos : 0 < N := View.dmaCredit_pos _ (by decide)

/-! ## Contents -/

/-- Row block `t` of the copy on `c`, outright; nothing is said of what it holds. -/
def rowPts (c : Dev nD) (t : Fin 32) : sProp 𝕄 :=
  iprop(∃ f : Buf (Elt F) ((rows t).view.loc (c : Thread nD τ)), (rows t).view.loc (c : Thread nD τ) ↦[(rows t).view.set]{fullShare} f)
/-- The receive buffer, and the copy of the operand, whole. -/
def xgPts (c : Dev nD) (f : Buf (Elt F) ((c : Thread nD τ).loc cc0_scratch1)) : sProp 𝕄 := ((c : Thread nD τ).loc cc0_scratch1) ↦{fullShare} f
def xbfPts (c : Dev nD) (f : Buf (Elt F) ((c : Thread nD τ).loc cc0_scratch0)) : sProp 𝕄 := ((c : Thread nD τ).loc cc0_scratch0) ↦{fullShare} f

/-- The pass to `t`'s receive buffer that goes with slot `s`. -/
def pass (t : Dev nD) (s : Fin 32) : sProp 𝕄 := dutyTok ER (recvCell t s) 0 true
/-- What the invariant of `t`'s receive buffer holds: the buffer, or all the passes. -/
def window (t : Dev nD) : sProp 𝕄 := iprop((∃ f, xgPts t f) ∨ bigSep Finset.univ fun s : Fin 32 => pass t s)

instance rowPts_storable (c : Dev nD) (t) : BI.Storable (upEmb : UEmb _ 𝕄) (rowPts (F := F) c t) := by unfold rowPts; infer_instance
instance pass_storable (t : Dev nD) (s) : BI.Storable (upEmb : UEmb _ 𝕄) (pass (F := F) t s) := by unfold pass; infer_instance
instance window_storable (t : Dev nD) : BI.Storable (upEmb : UEmb _ 𝕄) (window (F := F) t) := by unfold window xgPts; infer_instance

/-! ## The schedule -/

def recvPay (c : Dev nD) (s : Fin 32) : sProp 𝕄 := iprop(pass c s ∗ (if s = c then rowPts c c else iprop(emp)))
def sendPay (c : Dev nD) (r : Fin 31) : sProp 𝕄 := rowPts c (peer c r)

def semDuties : SemLoc sig → Finset D
  | .reg _ => ∅
  | .dma q => if (role q).isSome then {false} else ∅
def dmaPay (c : Dev nD) : Option (Fin 31 ⊕ Fin 32) → sProp 𝕄
  | some (.inl r) => sendPay c r
  | some (.inr s) => recvPay c s
  | none => iprop(emp)
def semPay (c : Dev nD) : SemLoc sig → sProp 𝕄
  | .reg _ => iprop(emp)
  | .dma q => dmaPay c (role q)

def talk : Rounds.Schedule (GSem nD τ sig) D 𝕄 where
  duties g r := if r = 0 ∧ g.1.2 = .tc then semDuties g.2 else ∅
  unitless _ := False
  amount _ _ _ := N
  payload g _ _ := semPay g.1.1 g.2
  amount_pos _ _ _ _ := N_pos

instance talk_payload_storable (g : GSem nD τ sig) (r : ℕ) (d : D) :
    BI.Storable (upEmb : UEmb _ 𝕄) ((talk (F := F)).payload g r d) := by
  rcases g with ⟨t, q | q⟩
  · show BI.Storable upEmb iprop(emp); infer_instance
  · show BI.Storable upEmb (dmaPay t.1 (role q))
    rcases role q with _ | _ | s
    · show BI.Storable upEmb iprop(emp); infer_instance
    · show BI.Storable upEmb (sendPay _ _); unfold sendPay; infer_instance
    · show BI.Storable upEmb (recvPay _ _); unfold recvPay
      split <;> infer_instance

section Sched
variable (c : Dev nD) (r : Fin 31) (s : Fin 32) (d : D)

theorem duties_zero (sm : SemLoc sig) : (talk (F := F)).duties ((c : Thread nD τ), sm) 0 = semDuties sm := by
  show (if (0 : ℕ) = 0 ∧ (c : Thread nD τ).2 = .tc then semDuties sm else ∅) = _
  exact if_pos ⟨rfl, rfl⟩
theorem duties_send : (talk (F := F)).duties (sendCell c r) 0 = {false} := by
  rw [duties_zero]; dsimp only [semDuties]; rw [role_send]; rfl
theorem duties_recv : (talk (F := F)).duties (recvCell c s) 0 = {false} := by
  rw [duties_zero]; dsimp only [semDuties]; rw [role_recv]; rfl
theorem duties_later (g : GSem nD τ sig) : ∀ r, 1 ≤ r → (talk (F := F)).duties g r = ∅ :=
  fun r hr => if_neg fun h => by omega
theorem amount_send : (talk (F := F)).amount (sendCell c r) 0 d = N := rfl
theorem amount_recv : (talk (F := F)).amount (recvCell c s) 0 d = N := rfl
theorem expect_send : (talk (F := F)).expect (sendCell c r) 0 = N := by
  unfold Schedule.expect Schedule.amountOf; rw [duties_send, Finset.sum_singleton, amount_send]
theorem expect_recv : (talk (F := F)).expect (recvCell c s) 0 = N := by
  unfold Schedule.expect Schedule.amountOf; rw [duties_recv, Finset.sum_singleton, amount_recv]
theorem payload_send : (talk (F := F)).payload (sendCell c r) 0 d = sendPay c r := by
  show dmaPay c (role (sendS r)) = _; rw [role_send]; rfl
theorem payload_recv : (talk (F := F)).payload (recvCell c s) 0 d = recvPay c s := by
  show dmaPay c (role (recvS s)) = _; rw [role_recv]; rfl
theorem rest_send : bigSep ((talk (F := F)).duties (sendCell c r) 0 \ ∅) (fun d => (talk (F := F)).payload (sendCell c r) 0 d) = sendPay c r := by
  rw [Finset.sdiff_empty, duties_send, bigSep_singleton, payload_send]
theorem rest_recv : bigSep ((talk (F := F)).duties (recvCell c s) 0 \ ∅) (fun d => (talk (F := F)).payload (recvCell c s) 0 d) = recvPay c s := by
  rw [Finset.sdiff_empty, duties_recv, bigSep_singleton, payload_recv]
end Sched

/-! ## What each device owes at launch; the levels -/

/-- The copies due to the peers' slots over the turns `l`. -/
def recvDues (c : Dev nD) (l : List (Fin 31)) : CellTallies nD τ sig Unit := (l.map fun r => tallyAt (recvCell (peer c r) c) () N).sum

def L (g : GSem nD τ sig) : Finset Unit := if g.1.2 = .tc then {()} else ∅
/-- Slot cells at 1, everything else (staging, sends) at 0. -/
def semLv : SemLoc sig → ℕ
  | .reg _ => 0
  | .dma q => if (role q).any Sum.isRight then 1 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 32) : lv (recvCell c s) () = 1 := by
  show (if (role (recvS s)).any Sum.isRight then 1 else 0) = 1; rw [role_recv]; rfl

/-- Where a sum of dues is positive, one of them is. -/
theorem dues_pos {T : Fin 31 → GSem nD τ sig} {n : ℕ} : ∀ {l : List (Fin 31)} {g : GSem nD τ sig} {u : Unit},
    0 < ((l.map fun r => (tallyAt (T r) () n : CellTallies nD τ sig Unit)).sum) g u → ∃ r, g = T r
  | [], _, _, h => absurd h (Nat.lt_irrefl 0)
  | r :: l, g, u, h => by
    rw [List.map_cons, List.sum_cons, Pi.add_apply, Finsupp.add_apply, tallyAt_apply] at h
    by_cases hg : g = T r ∧ u = ()
    · exact ⟨r, hg.1⟩
    · rw [if_neg hg, Nat.zero_add] at h; exact dues_pos h

theorem mayWait_stage (c : Dev nD) (q : DmaSem sig) (hq : role q = none) (O : CellTallies nD τ sig Unit) (hO : O = recvDues c turns ∨ O = 0) :
    (levAts L lv : sProp 𝕄) ⊢ MayWait (c : Thread nD τ) (.dma q) () O := by
  have hlv (p : Unit) : lv ((c : Thread nD τ), .dma q) p = 0 := by
    show (if (role q).any Sum.isRight then 1 else 0) = 0; rw [hq]; rfl
  rcases hO with rfl | rfl
  · refine MayOwe.of_cut (L := L) (lev := lv) 0 (fun p hp => by rw [Finset.mem_singleton.mp hp, L_tc]; exact Finset.mem_singleton_self _)
      (fun g u hg => by obtain ⟨r, rfl⟩ := dues_pos hg; exact Finset.mem_singleton_self _)
      (fun p hp => by rw [Finset.mem_singleton.mp hp, hlv])
      (fun g u hg => by obtain ⟨r, rfl⟩ := dues_pos hg; rw [lv_recv]; decide)
  · rw [MayWait_zero]; iintro -; iempintro

/-! ## The receive buffer behind its invariant -/

/-- Each of the passes is among them; -/
theorem pass_of (t : Dev nD) (s : Fin 32) : (bigSep Finset.univ fun s : Fin 32 => pass t s : sProp 𝕄) ⊢ pass t s :=
  bigSep_elim (Finset.mem_univ s)
/-- and each is one of a kind. -/
theorem pass_once (t : Dev nD) (s : Fin 32) : (iprop(pass t s ∗ bigSep Finset.univ fun s : Fin 32 => pass t s) : sProp 𝕄) ⊢ False := by
  iintro ⟨H, Hs⟩
  ihave H' := (pass_of t s) $$ Hs
  unfold pass
  iapply (dutyTok_dutyTok_false ER)
  isplitl [H] <;> iassumption
/-- Whoever has a pass finds the buffer behind the invariant. -/
theorem window_pass (t : Dev nD) (s : Fin 32) : (iprop(window t ∗ pass t s) : sProp 𝕄) ⊢ iprop((∃ f, xgPts t f) ∗ pass t s) := by
  unfold window
  iintro ⟨H | H, Hp⟩
  · isplitl [H] <;> iassumption
  · iexfalso
    iapply (pass_once t s)
    isplitl [Hp] <;> iassumption
theorem window_in (t : Dev nD) (f : Buf (Elt F) ((t : Thread nD τ).loc cc0_scratch1)) : (xgPts t f : sProp 𝕄) ⊢ window t := by
  unfold window
  iintro H; ileft; iexists f; iexact H

/-- The copy into slot `s` of `t` writes by its pass and keeps it. -/
theorem write_pass (κ : ℕ) (t : Dev nD) (s s' : Fin 32) (w : S64x64.Idx → Elt F .bf16) :
    (iprop(inv κ (window t) ∗ pass t s) : sProp 𝕄) ⊢ writeUpdate (t : Thread nD τ) (slot s').view w (pass t s) := by
  rw [writeUpdate, writeUpdateFrom_def]
  iintro ⟨#HI, Hp⟩
  iexists (fun _ => pass t s)
  isplitl [Hp]; · iexact Hp
  isplitr
  · rw [writeSteps_def]
    imodintro
    iintro %M %M' Hp
    imod (inv_acc (Set.mem_univ κ)) $$ HI with ⟨HW, Hclose⟩
    ihave H := (window_pass t s) $$ [HW Hp]
    · isplitl [HW] <;> iassumption
    icases H with ⟨⟨%f, Hf⟩, Hp⟩
    imodintro
    rw [storeSpec_apply]
    unfold xgPts
    iexists Finset.univ, f
    isplitl [Hf]; · iexact Hf
    isplitr; · ipureintro; exact Finset.subset_univ _
    iintro Hf
    ihave H := Hclose $$ [Hf]
    · iapply (window_in t _); unfold xgPts; iexact Hf
    imod H
    imodintro
    iexact Hp
  · iintro H; iexact H

/-- A load of a slot by a pass: whatever the slot holds. -/
theorem load_pass (κ : ℕ) (t : Dev nD) (s s' : Fin 32) {hl : xg.view.LoadsAt (slotRect s').toLoadRect}
    {k : Vec F S1x64x64 .bf16 → P F PUnit} {Q : PUnit → sProp 𝕄} :
    (iprop(inv κ (window t) ∗ pass t s) : sProp 𝕄)
      ⊢ iprop((∀ b, pass t s -∗ wp frame (wpE (defs₀ (F := F)) Variants.none (t : Thread nD τ) none) Set.univ (k b) Q)
          -∗ wp frame (wpE (defs₀ (F := F)) Variants.none (t : Thread nD τ) none) Set.univ (.op (.load xg (slotRect s').toLoadRect hl) k) Q) := by
  iintro ⟨#HI, Hp⟩ Hk
  iapply (wp_atomically Variants.none (t : Thread nD τ) none Set.univ)
  imod (inv_acc (Set.mem_univ κ)) $$ HI with ⟨HW, Hclose⟩
  ihave H := (window_pass t s) $$ [HW Hp]
  · isplitl [HW] <;> iassumption
  icases H with ⟨⟨%f, Hf⟩, Hp⟩
  imodintro
  unfold xgPts
  iapply (fp_load (Λ := Λ₀) (t : Thread nD τ) (m := xg) (r := (slotRect s').toLoadRect) (hl := hl) (S := Finset.univ) (q := fullShare) (f := f) (Finset.subset_univ _)) $$ Hf
  iintro Hf
  ihave H := Hclose $$ [Hf]
  · iapply (window_in t f); unfold xgPts; iexact Hf
  imod H
  imodintro
  iapply Hk; iexact Hp

/-- All the passes in hand, the buffer comes out for good. -/
theorem window_out (κ : ℕ) (t : Dev nD) :
    (iprop(inv κ (window t) ∗ bigSep Finset.univ fun s : Fin 32 => pass t s) : sProp 𝕄) ⊢ |={Set.univ}=> iprop(∃ f, xgPts t f) := by
  iintro ⟨#HI, Hps⟩
  imod (inv_acc (Set.mem_univ κ)) $$ HI with ⟨HW, Hclose⟩
  ihave H := (show (iprop(window t ∗ bigSep Finset.univ fun s : Fin 32 => pass t s) : sProp 𝕄)
      ⊢ iprop((∃ f, xgPts t f) ∗ window t) from by
    unfold window
    iintro ⟨H | H, Hps⟩
    · isplitl [H]; · iexact H
      iright; iexact Hps
    · iexfalso
      iapply (pass_once t (0 : Fin 32))
      isplitl [H]
      · iapply (pass_of t 0); iexact H
      · iexact Hps) $$ [HW Hps]
  · isplitl [HW] <;> iassumption
  icases H with ⟨Hf, HW⟩
  ihave H := Hclose $$ HW
  imod H
  imodintro
  iexact Hf

end Cert.Filed.Proof

end
-- ==== Proof.FiledBody.lean ====
/- The loops of the kernel as filed, turn by turn, and the body from them. Every contents is left open: the frames read none. -/
module

public import proofs.«01_k».proof.Proof.FiledSched
public import Idealize.ShloMosaic.Lib.Pipeline.Value

@[expose] public section

set_option maxRecDepth 16384

noncomputable section

namespace Cert.Filed.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

abbrev 𝒱₀ : Variants := Variants.none

/-! ## Resources along a list -/

/-- `Φ` of every entry of the list. -/
def each {I : Type} (l : List I) (Φ : I → sProp 𝕄) : sProp 𝕄 := l.foldr (fun i P => iprop(Φ i ∗ P)) iprop(emp)

theorem each_nil {I : Type} (Φ : I → sProp 𝕄) : each [] Φ = iprop(emp) := rfl
theorem each_cons {I : Type} (i : I) (l : List I) (Φ : I → sProp 𝕄) : each (i :: l) Φ = iprop(Φ i ∗ each l Φ) := rfl
theorem each_eq {I : Type} [DecidableEq I] : ∀ {l : List I} (_ : l.Nodup) (Φ : I → sProp 𝕄), each l Φ = bigSep l.toFinset Φ
  | [], _, _ => rfl
  | i :: l, h, Φ => by
    rw [each_cons, each_eq (List.nodup_cons.mp h).2, List.toFinset_cons, BI.bigSep_insert]
    · rfl
    · rw [List.mem_toFinset]; exact (List.nodup_cons.mp h).1
theorem each_turns (Φ : Fin 31 → sProp 𝕄) : each turns Φ = bigSep Finset.univ Φ := by
  rw [each_eq (by decide)]; rfl
theorem each_slots (Φ : Fin 32 → sProp 𝕄) : each slots Φ = bigSep Finset.univ Φ := by
  rw [each_eq (by decide)]; rfl

/-! ## The invariants -/

/-- Every cell's invariant, at the names `K`, that every cell is at its round, and the receive buffers' invariants, at the names `κ`. -/
def records (K : Dev nD × KI → ℕ) (κ : Dev nD → ℕ) : sProp 𝕄 :=
  iprop(((bigSep Finset.univ fun ck : Dev nD × KI => cellInv ER talk (K ck) (kcell ck))
    ∗ bigSep Finset.univ fun ck : Dev nD × KI => reached ER (kcell ck) 0) ∗ bigSep Finset.univ fun t : Dev nD => inv (κ t) (window t))

instance records_persistent (K : Dev nD × KI → ℕ) (κ : Dev nD → ℕ) : BI.Persistent (records (F := F) K κ) := by unfold records; infer_instance

section Records
variable (K : Dev nD × KI → ℕ) (κ : Dev nD → ℕ)

theorem inv_both (ck : Dev nD × KI) :
    iprop((bigSep Finset.univ fun ck : Dev nD × KI => cellInv ER talk (K ck) (kcell ck))
      ∗ bigSep Finset.univ fun ck : Dev nD × KI => reached ER (kcell ck) 0)
    ⊢ (iprop(cellInv ER talk (K ck) (kcell ck) ∗ reached ER (kcell ck) 0) : sProp 𝕄) :=
  BI.sep_mono (bigSep_elim (Finset.mem_univ ck)) (bigSep_elim (Finset.mem_univ ck))
theorem window_one (t : Dev nD) : (bigSep Finset.univ fun t : Dev nD => inv (κ t) (window t)) ⊢ (inv (κ t) (window t) : sProp 𝕄) :=
  bigSep_elim (Finset.mem_univ t)
theorem inv_at (ck : Dev nD × KI) : (records K κ : sProp 𝕄) ⊢ iprop(cellInv ER talk (K ck) (kcell ck) ∗ reached ER (kcell ck) 0) := by
  unfold records
  iintro ⟨H, -⟩
  iapply (inv_both K ck); iexact H
theorem inv_window (t : Dev nD) : (records K κ : sProp 𝕄) ⊢ inv (κ t) (window t) := by
  unfold records
  iintro ⟨-, H⟩
  iapply (window_one κ t); iexact H
theorem inv_recv (c : Dev nD) (s : Fin 32) :
    (records K κ : sProp 𝕄) ⊢ iprop(cellInv ER talk (K (c, .inr s)) (recvCell c s) ∗ reached ER (recvCell c s) 0) :=
  inv_at K κ (c, .inr s)
theorem inv_send (c : Dev nD) (r : Fin 31) :
    (records K κ : sProp 𝕄) ⊢ iprop(cellInv ER talk (K (c, .inl r.succ)) (sendCell c r) ∗ reached ER (sendCell c r) 0) := by
  have h := inv_at (F := F) K κ (c, .inl r.succ)
  dsimp only [kcell, osem] at h
  rwa [oq_send] at h

/-- Owing `O`, whatever has been waited for. -/
def owesAny (c : Dev nD) (O : CellTallies nD τ sig Unit) : sProp 𝕄 := iprop(∃ W, owes (c : Thread nD τ) O W)

/-- The rest of the body, run from here. -/
abbrev run (c : Dev nD) (k : P F PUnit) (Q : PUnit → sProp 𝕄) : sProp 𝕄 :=
  wp frame (wpE (defs₀ (F := F)) 𝒱₀ (c : Thread nD τ) none) Set.univ k Q

theorem recvDues_cons (c : Dev nD) (r : Fin 31) (l : List (Fin 31)) :
    recvDues c (r :: l) = tallyAt (recvCell (peer c r) c) () N + recvDues c l := List.sum_cons

/-! ## Sending -/

set_option maxHeartbeats 1000000 in
/-- One turn's copy, its rows and its slot given by name. -/
theorem send_step (c : Dev nD) (r : Fin 31) (src : Memref sig .tc .vmem S64x64 .bf16) (dst : Memref sig .tc .vmem S64x64 .bf16)
    (q : DmaSem sig) (hs : src = rows (peer c r)) (hd : dst = slot c) (hq : q = recvS c)
    {hsc : (dst : Memref sig (Dev.tc (peer c r) : Thread nD τ).2.kind .vmem S64x64 .bf16).view.ref.isScScratch = false}
    {hsrc : src.view.WordExact} {hdst : dst.view.WordExact}
    {hsem : DmaTarget.Typed .vmem (.dma q) (.remote (Dev.tc (peer c r) : Thread nD τ) dst (.dma (sendS r)) hsc)}
    {k : PUnit → P F PUnit} {Q : PUnit → sProp 𝕄} (O : CellTallies nD τ sig Unit) (W : Waits sig Unit) :
    iprop(records K κ ∗ rowPts c (peer c r) ∗ pass (peer c r) c
        ∗ owes (c : Thread nD τ) (tallyAt (recvCell (peer c r) c) () N + O) W
        ∗ dutyTok ER (sendCell c r) 0 false ∗ dutyTok ER (recvCell (peer c r) c) 0 false)
      ⊢ iprop(((cred (tallyAt (sendCell c r) () N) ∗ owes (c : Thread nD τ) O W) -∗ run c (k ⟨⟩) Q)
          -∗ run c (.op (.enqueueDma src (.remote (Dev.tc (peer c r) : Thread nD τ) dst (.dma (sendS r)) hsc) (.dma q) hsrc hdst hsem) k) Q) := by
  subst hs hd hq
  iintro ⟨#HR, Hrow, Hpass, HO, HtS, HtV⟩ Hk
  ihave HS := (inv_send K κ c r) $$ HR
  icases HS with ⟨#HIS, #HrS⟩
  ihave HV := (inv_recv K κ (peer c r) c) $$ HR
  icases HV with ⟨#HIV, #HrV⟩
  ihave HW := (inv_window K κ (peer c r)) $$ HR
  icases HW with #HW
  unfold rowPts
  icases Hrow with ⟨%fs, Hrow⟩
  have hpay₁ : ((((rows (peer c r)).view.loc (c : Thread nD τ)) ↦[(rows (peer c r)).view.set]{fullShare} fs) : sProp 𝕄)
      ⊢ (talk (F := F)).payload (sendCell c r) 0 false := by
    rw [payload_send]; unfold sendPay rowPts
    iintro H; iexists fs; iexact H
  have hpay₂ : (pass (peer c r) c : sProp 𝕄) ⊢ (talk (F := F)).payload (recvCell (peer c r) c) 0 false := by
    rw [payload_recv]; unfold recvPay
    iintro H
    isplitl; · iexact H
    rw [if_neg (peer_ne c r).symm]; iempintro
  iapply (Rounds.wp_send 𝒱₀ ER talk (c : Thread nD τ) none (κ₁ := K (c, .inl r.succ)) (κ₂ := K (peer c r, .inr c))
    (fs := fs) (r₁ := 0) (r₂ := 0) (d₁ := false) (d₂ := false) (R := pass (peer c r) c)
    (by rw [duties_send]; exact Finset.mem_singleton_self _) (by rw [duties_recv]; exact Finset.mem_singleton_self _)
    () () N (show (slot c).view.amount (SemLoc.dma (recvS c)) = N from rfl) (amount_send c r false) (amount_recv (peer c r) c false) O (by rw [add_comm]) (W := W) hpay₁ hpay₂) $$ [Hrow Hpass HO HtS HtV]
  · isplitr; · iexact HIS
    isplitr; · iexact HIV
    isplitl [Hrow]; · iexact Hrow
    isplitl [Hpass]
    · iapply (write_pass (κ (peer c r)) (peer c r) c c _)
      isplitr; · iexact HW
      iexact Hpass
    isplitl [HO]; · iexact HO
    isplitl [HtS]; · iexact HtS
    isplitr; · iexact HrS
    isplitl [HtV]; · iexact HtV
    iexact HrV
  iexact Hk

theorem sendAll_run (c : Dev nD) (k : P F PUnit) (Q : PUnit → sProp 𝕄) : ∀ l : List (Fin 31),
    iprop(records K κ ∗ each l (fun r => dutyTok ER (sendCell c r) 0 false) ∗ each l (fun r => dutyTok ER (recvCell (peer c r) c) 0 false)
        ∗ each l (fun r => rowPts c (peer c r)) ∗ each l (fun r => pass (peer c r) c)
        ∗ owesAny c (recvDues c l) ∗ ((owesAny c 0 ∗ each l (fun r => cred (tallyAt (sendCell c r) () N))) -∗ run c k Q))
      ⊢ run c (sendAll c l k) Q
  | [] => by
    iintro ⟨-, -, -, -, -, HO, Hk⟩
    iapply Hk
    isplitl; · iexact HO
    rw [each_nil]; iempintro
  | r :: l => by
    simp only [each_cons, recvDues_cons]
    unfold owesAny
    iintro ⟨#HR, ⟨HtS, HtSs⟩, ⟨HtV, HtVs⟩, ⟨Hrow, Hrows⟩, ⟨Hpass, Hpasses⟩, ⟨%W, HO⟩, Hk⟩
    iapply (send_step K κ c r (sentRows c r) (ownSlot c) (ownS c) (sentRows_eq c r) (ownSlot_eq c) (ownS_eq c) (recvDues c l) W)
      $$ [Hrow Hpass HO HtS HtV]
    · isplitr; · iexact HR
      isplitl [Hrow]; · iexact Hrow
      isplitl [Hpass]; · iexact Hpass
      isplitl [HO]; · iexact HO
      isplitl [HtS] <;> iassumption
    iintro ⟨Hc, HO⟩
    iapply (sendAll_run c k Q l)
    isplitr; · iexact HR
    isplitl [HtSs]; · iexact HtSs
    isplitl [HtVs]; · iexact HtVs
    isplitl [Hrows]; · iexact Hrows
    isplitl [Hpasses]; · iexact Hpasses
    isplitl [HO]; · unfold owesAny; iexists W; iexact HO
    unfold owesAny
    iintro ⟨HO, Hcs⟩
    iapply Hk
    isplitl [HO]; · iexact HO
    isplitl [Hc] <;> iassumption

/-! ## Receiving -/

theorem recvAll_cons (arg1 : Memref sig .tc .vmem S2048x2048 .bf16) (s : Fin 32) (l : List (Fin 32)) (k : FVec F S64x2048 .f32 → P F PUnit)
    (acc : FVec F S64x2048 .f32) : recvAll arg1 (s :: l) k acc =
      .op (.waitDma2 (recvS s) someRows (slot s) (hxbf.wordExact_slice rfl _ wordsbf16_S2048x64_S64x64_0_0)
        ((hxg.wordExact_slice rfl _ (slot_words s)).reshape _ _)) fun _ =>
      .op (.load xg (slotRect s).toLoadRect (View.loadsAt_vmem h_S1x64x64)) fun b =>
      .op (.load arg1 (wRect s).toLoadRect (View.loadsAt_vmem h_S64x2048)) fun w =>
      recvAll arg1 l k (addTurn acc b w) := rfl

/-- The weights staged on `c`. -/
def wPts (c : Dev nD) : sProp 𝕄 := iprop(∃ f : Buf (Elt F) ((c : Thread nD τ).loc cc0_stg1_0), ((c : Thread nD τ).loc cc0_stg1_0) ↦{fullShare} f)

/-- What is left of slot `s`: its pass, its cell closed, and of its own slot also the rows that were copied from. -/
def gotSlot (c : Dev nD) (s : Fin 32) : sProp 𝕄 := iprop(recvPay c s ∗ semVal (recvCell c s) 0)

theorem recvAll_run (c : Dev nD) (k : FVec F S64x2048 .f32 → P F PUnit) (Q : PUnit → sProp 𝕄) : ∀ (l : List (Fin 32)) (acc : FVec F S64x2048 .f32),
    iprop(records K κ ∗ each l (fun s => cred (tallyAt (recvCell c s) () N)) ∗ each l (fun s => atPos ER (recvCell c s) 0 ∅ 0)
        ∗ wPts c ∗ owesAny c 0
        ∗ iprop(∀ a, (owesAny c 0 ∗ wPts c ∗ each l (gotSlot c)) -∗ run c (k a) Q))
      ⊢ run c (recvAll (Memref.whole cc0_stg1_0) l k acc) Q
  | [], acc => by
    rw [show recvAll (Memref.whole cc0_stg1_0) [] k acc = k acc from rfl]
    iintro ⟨-, -, -, Hw, HO, Hk⟩
    ispecialize Hk $$ %acc
    iapply Hk
    isplitl [HO]; · iexact HO
    isplitl [Hw]; · iexact Hw
    rw [each_nil]; iempintro
  | s :: l, acc => by
    rw [recvAll_cons]
    simp only [each_cons]
    unfold owesAny
    iintro ⟨#HR, ⟨Hc, Hcs⟩, ⟨Hat, Hats⟩, Hw, ⟨%W, HO⟩, Hk⟩
    ihave HI := (inv_recv K κ c s) $$ HR
    icases HI with ⟨#HI, -⟩
    iapply (Rounds.wp_wait_rest_token 𝒱₀ ER (talk) (c : Thread nD τ) none (κ := K (c, .inr s))
        (wpE_waitDma2_eq 𝒱₀ (c : Thread nD τ) none Set.univ) (Set.mem_univ _) () (O := 0) (W := W) (R := 0) (m := 0) (T := ∅)
        (by rw [Nat.zero_add, expect_recv])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_recv c s)) $$ Hpay
    imod (Rounds.cell_close ER (talk) (Set.mem_univ (K (c, .inr s))) (fun h => h) (R := 0 + 1) (duties_later (recvCell c s))) $$ [Hat] with Hz
    · isplitr; · iexact HI
      iexact Hat
    unfold recvPay
    icases Hp with ⟨Hpass, Hown⟩
    ihave HW := (inv_window K κ c) $$ HR
    icases HW with #HW
    iapply (load_pass (κ c) c s s) $$ [Hpass]
    · isplitr; · iexact HW
      iexact Hpass
    iintro %b Hpass
    unfold wPts
    icases Hw with ⟨%fw, Hw⟩
    iapply (wp_load 𝒱₀ (c : Thread nD τ) none Set.univ (m := Memref.whole cc0_stg1_0) (r := (wRect s).toLoadRect) (Finset.subset_univ _)) $$ Hw
    iintro Hw
    iapply (recvAll_run c k Q l _)
    isplitr; · iexact HR
    isplitl [Hcs]; · iexact Hcs
    isplitl [Hats]; · iexact Hats
    isplitl [Hw]; · unfold wPts; iexists fw; iexact Hw
    isplitl [HO]; · unfold owesAny; iexists _; iexact HO
    iintro %a ⟨HO, Hw, Hgot⟩
    ispecialize Hk $$ %a
    iapply Hk
    isplitl [HO]; · unfold owesAny; iexact HO
    isplitl [Hw]; · unfold wPts; iexact Hw
    isplitr [Hgot]
    · unfold gotSlot recvPay
      isplitr [Hz]
      · isplitl [Hpass]; · iexact Hpass
        iexact Hown
      · iexact Hz
    · iexact Hgot

/-! ## Draining -/

theorem drainAll_cons (c : Dev nD) (r : Fin 31) (l : List (Fin 31)) (k : P F PUnit) : drainAll c (r :: l) k =
    .op (.waitDma2 (sendS r) (ownSlot c) (sentRows c r) ((hxg.wordExact_slice rfl _ (k0_off2_wordsbf16 c)).reshape _ _)
      (hxbf.wordExact_slice rfl _ (k0_off4_wordsbf16 c r))) fun _ => drainAll c l k := rfl

theorem drainAll_run (c : Dev nD) (k : P F PUnit) (Q : PUnit → sProp 𝕄) : ∀ l : List (Fin 31),
    iprop(records K κ ∗ each l (fun r => cred (tallyAt (sendCell c r) () N)) ∗ each l (fun r => atPos ER (sendCell c r) 0 ∅ 0) ∗ owesAny c 0
        ∗ ((owesAny c 0 ∗ each l (fun r => iprop(rowPts c (peer c r) ∗ semVal (sendCell c r) 0))) -∗ run c k Q))
      ⊢ run c (drainAll c l k) Q
  | [] => by
    iintro ⟨-, -, -, HO, Hk⟩
    iapply Hk
    isplitl; · iexact HO
    rw [each_nil]; iempintro
  | r :: l => by
    rw [drainAll_cons]
    simp only [each_cons]
    unfold owesAny
    iintro ⟨#HR, ⟨Hc, Hcs⟩, ⟨Hat, Hats⟩, ⟨%W, HO⟩, Hk⟩
    ihave HI := (inv_send K κ c r) $$ HR
    icases HI with ⟨#HI, -⟩
    iapply (Rounds.wp_wait_rest_token 𝒱₀ ER (talk) (c : Thread nD τ) none (κ := K (c, .inl r.succ))
        (wpE_waitDma2_eq 𝒱₀ (c : Thread nD τ) none Set.univ) (Set.mem_univ _) () (O := 0) (W := W) (R := 0) (m := 0) (T := ∅)
        (by rw [Nat.zero_add, expect_send])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_send c r)) $$ Hpay
    imod (Rounds.cell_close ER (talk) (Set.mem_univ (K (c, .inl r.succ))) (fun h => h) (R := 0 + 1) (duties_later (sendCell c r))) $$ [Hat] with Hz
    · isplitr; · iexact HI
      iexact Hat
    iapply (drainAll_run c k Q l)
    isplitr; · iexact HR
    isplitl [Hcs]; · iexact Hcs
    isplitl [Hats]; · iexact Hats
    isplitl [HO]; · unfold owesAny; iexists _; iexact HO
    iintro ⟨HO, Hgot⟩
    iapply Hk
    isplitl [HO]; · unfold owesAny; iexact HO
    isplitr [Hgot]
    · isplitl [Hp]
      · unfold sendPay; iexact Hp
      · iexact Hz
    · iexact Hgot

end Records

/-! ## Taking things apart and putting them together -/

theorem around (c : Dev nD) (Φ : Dev nD → sProp 𝕄) : bigSep Finset.univ Φ = iprop(Φ c ∗ bigSep Finset.univ fun r : Fin 31 => Φ (peer c r)) := by
  rw [univ_eq c, BI.bigSep_insert, bigSep_map]
  · rfl
  · intro h; obtain ⟨r, -, hr⟩ := Finset.mem_map.mp h; exact peer_ne c r hr
theorem bigSep_succ (Φ : Fin 32 → sProp 𝕄) : bigSep Finset.univ Φ = iprop(Φ 0 ∗ bigSep Finset.univ fun r : Fin 31 => Φ r.succ) := by
  rw [Fin.univ_succ, Finset.cons_eq_insert, BI.bigSep_insert, bigSep_map]
  · rfl
  · intro h; obtain ⟨r, -, hr⟩ := Finset.mem_map.mp h; exact Fin.succ_ne_zero r hr
/-- The kernel's own semaphores. -/
theorem own_eq (Φ : SemLoc sig → sProp 𝕄) : (bigSep Finset.univ fun k : KI => Φ (osem k))
    = iprop((Φ (osem (.inl 0)) ∗ bigSep Finset.univ fun r : Fin 31 => Φ (.dma (sendS r))) ∗ bigSep Finset.univ fun s : Fin 32 => Φ (.dma (recvS s))) := by
  refine (BI.bigSep_univ_sum _).trans ?_
  rw [bigSep_succ]
  congr 2
/-- The copy of the operand, by rows: taken apart, and put together. -/
theorem row_some (c : Dev nD) (t : Fin 32) :
    (rowPts c t : sProp 𝕄) = iprop(∃ f : Buf (Elt F) ((c : Thread nD τ).loc cc0_scratch0), ((c : Thread nD τ).loc cc0_scratch0) ↦[(rowsRect t).set]{fullShare} f) :=
  congrArg (fun S => (iprop(∃ f : Buf (Elt F) ((c : Thread nD τ).loc cc0_scratch0), ((c : Thread nD τ).loc cc0_scratch0) ↦[S]{fullShare} f) : sProp 𝕄)) (rows_set t)
theorem row_intro (c : Dev nD) (t : Fin 32) (f : Buf (Elt F) ((c : Thread nD τ).loc cc0_scratch0)) :
    ((((c : Thread nD τ).loc cc0_scratch0) ↦[(rowsRect t).set]{fullShare} f) : sProp 𝕄) ⊢ rowPts c t := by
  rw [row_some]; iintro H; iexists f; iexact H
theorem xbf_split (c : Dev nD) (f : Buf (Elt F) ((c : Thread nD τ).loc cc0_scratch0)) :
    (xbfPts c f : sProp 𝕄) ⊢ iprop(rowPts c c ∗ each turns fun r => rowPts c (peer c r)) := by
  rw [each_turns, ← around c (rowPts (F := F) c)]
  exact (Entails.of_eq (Ring.pointsTo_blocks (ℓ := (c : Thread nD τ).loc cc0_scratch0) (fun t : Fin 32 => (rowsRect t).set) rows_disjoint rows_cover f)).trans
    (bigSep_mono fun t _ => row_intro c t f)
theorem xbf_join (c : Dev nD) (f₀ : Buf (Elt F) ((c : Thread nD τ).loc cc0_scratch0)) :
    iprop(rowPts c c ∗ bigSep Finset.univ fun r => rowPts c (peer c r)) ⊢ (iprop(∃ f, xbfPts c f) : sProp 𝕄) := by
  rw [← around c (rowPts (F := F) c), show rowPts (F := F) c = fun t => _ from funext (row_some c)]
  exact Ring.pointsTo_blocks_join_exists (ℓ := (c : Thread nD τ).loc cc0_scratch0) (fun t : Fin 32 => (rowsRect t).set) rows_disjoint rows_cover f₀

/-- All slots in: every pass, the rows copied within the device, the slots' cells closed. -/
theorem got_all (c : Dev nD) : each slots (gotSlot c)
    ⊢ (iprop((bigSep Finset.univ fun s : Fin 32 => pass c s) ∗ rowPts c c ∗ bigSep Finset.univ fun s : Fin 32 => semVal (recvCell c s) 0) : sProp 𝕄) := by
  rw [each_slots]; unfold gotSlot recvPay
  rw [bigSep_sep', bigSep_sep', bigSep_univ_at (fun s : Fin 32 => if s = c then rowPts c c else iprop(emp)) c, if_pos rfl]
  iintro ⟨⟨Hs, Hr, -⟩, Hz⟩
  isplitl [Hs]; · iexact Hs
  isplitl [Hr] <;> iassumption

/-! ## The body -/

theorem copy_step (K : Dev nD × KI → ℕ) (κ : Dev nD → ℕ) (c : Dev nD) (src dst : Memref sig .tc .vmem S64x64 .bf16) (q : DmaSem sig)
    (hs : src = rows c) (hd : dst = slot c) (hq : q = recvS c)
    {hsrc : src.view.WordExact} {hdst : dst.view.WordExact} {hsem : DmaTarget.Typed (nD := nD) (τ := τ) .vmem (.dma q) (.here (p := (c : Thread nD τ).2) dst)}
    {k : PUnit → P F PUnit} {Q : PUnit → sProp 𝕄} :
    iprop(records K κ ∗ rowPts c c ∗ pass c c ∗ dutyTok ER (recvCell c c) 0 false)
      ⊢ iprop((cred (tallyAt (recvCell c c) () N) -∗ run c (k ⟨⟩) Q) -∗ run c (.op (.enqueueDma src (.here (p := (c : Thread nD τ).2) dst) (.dma q) hsrc hdst hsem) k) Q) := by
  subst hs hd hq
  iintro ⟨#HR, Hrow, Hpass, Ht⟩ Hk
  ihave HV := (inv_recv K κ c c) $$ HR
  icases HV with ⟨#HI, #Hr⟩
  ihave HW := (inv_window K κ c) $$ HR
  icases HW with #HW
  unfold rowPts
  icases Hrow with ⟨%fs, Hrow⟩
  iapply (Rounds.wp_copy 𝒱₀ ER talk (c : Thread nD τ) none (κ := K (c, .inr c)) (src := rows c) (dst := slot c) (q := fullShare) (fs := fs)
    (R := pass c c) (r := 0) (d := false)
    (by rw [duties_recv]; exact Finset.mem_singleton_self _) () N rfl (amount_recv c c false)
    (by
      rw [payload_recv]; unfold recvPay rowPts
      iintro ⟨H, Hr⟩
      isplitl [H]; · iexact H
      rw [if_pos rfl]; iexists fs; iexact Hr)) $$ [Hrow Hpass Ht]
  · isplitr; · iexact HI
    isplitl [Hrow]; · iexact Hrow
    isplitl [Hpass]
    · iapply (write_pass (κ c) c c c _)
      isplitr; · iexact HW
      iexact Hpass
    isplitl [Ht]; · iexact Ht
    iexact Hr
  iexact Hk

/-- What the protocol gives device `c` to start from: its positions, the tokens of the duties it pays, its passes. -/
def linear (c : Dev nD) : sProp 𝕄 :=
  iprop((bigSep Finset.univ fun k : KI => atPos ER (kcell (c, k)) 0 ∅ 0)
    ∗ (bigSep Finset.univ fun r : Fin 31 => dutyTok ER (sendCell c r) 0 false)
    ∗ (dutyTok ER (recvCell c c) 0 false ∗ bigSep Finset.univ fun r : Fin 31 => dutyTok ER (recvCell (peer c r) c) 0 false)
    ∗ (pass c c ∗ bigSep Finset.univ fun r : Fin 31 => pass (peer c r) c))
def ghost (K : Dev nD × KI → ℕ) (κ : Dev nD → ℕ) (c : Dev nD) : sProp 𝕄 := iprop(records K κ ∗ linear c)
/-- What its body starts from: that at some names, and its credit. -/
def start (c : Dev nD) : sProp 𝕄 :=
  iprop((∃ K κ, ghost K κ c) ∗ bigSep Finset.univ fun r : Fin 31 => cred (tallyAt (recvCell c (peer c r)) () N))

def Φ₀ (c : Dev nD) : sProp 𝕄 := iprop(start c ∗ ∃ f, xbfPts c f)
/-- After the body: both buffers, and every cell closed at zero. -/
def Φ₁ (c : Dev nD) : sProp 𝕄 :=
  iprop((∃ f, xbfPts c f) ∗ (∃ f, xgPts c f) ∗ bigSep Finset.univ fun k : KI => semVal ((c : Thread nD τ), osem k) 0)

def t₀ : Fin cfg0.N := ⟨0, by rw [show cfg0.N = 1 from N_0]; decide⟩
theorem fin_N (t : Fin cfg0.N) : t = t₀ := by
  obtain ⟨t, ht⟩ := t; have : cfg0.N = 1 := N_0; exact Fin.ext (by simp only [t₀]; omega)

variable (m : (ℓ : Loc nD τ sig) → Buf (Elt F) ℓ)

/-- The run's data: the arrays as at launch; the body may leave anything in the staging buffers. -/
def dats (_ : Fin 1) (c : Dev nD) : RDat τ (Elt F) Unit ℕ UU ℕ cfg0 c where
  A w := m ((cfg0.win w).arr.view.loc (c : Thread nD τ))
  after _ _ _ _ := True
  Φ t := match t with
    | ⟨0, _⟩ => Φ₀ c
    | ⟨_ + 1, _⟩ => Φ₁ c
  q _ := fullShare
  owed t := match t with
    | ⟨0, _⟩ => recvDues c turns
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, whatever it holds. -/
abbrev stg (c : Dev nD) (b : Ref sig .tc) : sProp 𝕄 := iprop(∃ f : Buf (Elt F) (((c : Dev nD) : Thread nD τ).loc b), ((c : Thread nD τ).loc b) ↦{fullShare} f)

def bodyPre (c : Dev nD) : sProp 𝕄 :=
  iprop(Φ₀ c ∗ owesAny c (recvDues c turns) ∗ stg c cc0_stg0_0 ∗ stg c cc0_stg1_0 ∗ stg c cc0_stg2_0)
def bodyPost (c : Dev nD) : sProp 𝕄 :=
  iprop(Φ₁ c ∗ owesAny c 0 ∗ stg c cc0_stg0_0 ∗ stg c cc0_stg1_0 ∗ stg c cc0_stg2_0)

theorem duties_idle (c : Dev nD) : ∀ r, 0 ≤ r → (talk (F := F)).duties ((c : Thread nD τ), osem (.inl 0)) r = ∅ := by
  intro r _
  rcases Nat.eq_zero_or_pos r with rfl | h
  · rw [duties_zero]; rfl
  · exact duties_later _ r h

theorem deviceId_run (c : Dev nD) (k : Dev nD → P F PUnit) (Q : PUnit → sProp 𝕄) : run c (.op .deviceId k) Q = run c (k c) Q := wp_deviceId 𝒱₀ _ none _

/-- The body, one rule per effect and one per loop. -/
theorem sound_body (c : Dev nD) (Kt : PUnit → sProp 𝕄) :
    iprop(bodyPre c ∗ (bodyPost c -∗ Kt ⟨⟩))
      ⊢ run c (body (Memref.whole cc0_stg0_0) (Memref.whole cc0_stg1_0) (Memref.whole cc0_stg2_0)) Kt := by
  unfold body bodyPre Φ₀ start ghost linear
  rw [deviceId_run]
  iintro ⟨⟨⟨⟨⟨%K, %κ, #HR, Hat, HtS, ⟨Hto, HtV⟩, Hpo, Hps⟩, HcV⟩, ⟨%fb, Hxbf⟩⟩,
    HO, ⟨%g0, Hx⟩, Hw, ⟨%g2, Hout⟩⟩, Hk⟩
  ihave Hat := (Entails.of_eq (own_eq (fun sm => atPos ER ((c : Thread nD τ), sm) 0 ∅ 0))) $$ Hat
  icases Hat with ⟨⟨HatI, HatS⟩, HatV⟩
  -- its operand copied
  iapply (wp_load 𝒱₀ (c : Thread nD τ) none Set.univ (m := Memref.whole cc0_stg0_0) (Finset.subset_univ _)) $$ Hx; iintro Hx
  unfold xbfPts
  iapply (wp_load 𝒱₀ (c : Thread nD τ) none Set.univ (m := xbf) (Finset.subset_univ _)) $$ Hxbf; iintro Hxbf
  iapply (wp_store 𝒱₀ (c : Thread nD τ) none Set.univ (m := xbf) (r := Rect.unit (s := S2048x64) ![0, 0] S2048x64.size inb_S2048x64_S2048x64_0_0) (Mk := Finset.univ) (Finset.subset_univ _)) $$ Hxbf; iintro Hxbf
  ihave Hrows := (xbf_split c _) $$ [Hxbf]
  · unfold xbfPts; iexact Hxbf
  icases Hrows with ⟨Hrow, Hrows⟩
  -- its own block, to its own slot
  iapply (copy_step K κ c (ownRows c) (ownSlot c) (ownS c) (ownRows_eq c) (ownSlot_eq c) (ownS_eq c)) $$ [Hrow Hpo Hto]
  · isplitr; · iexact HR
    isplitl [Hrow]; · iexact Hrow
    isplitl [Hpo] <;> iassumption
  iintro Hco
  -- the other blocks, to the peers
  iapply (sendAll_run K κ c _ _ turns)
  simp only [each_turns]
  isplitr; · iexact HR
  isplitl [HtS]; · iexact HtS
  isplitl [HtV]; · iexact HtV
  isplitl [Hrows]; · iexact Hrows
  isplitl [Hps]; · iexact Hps
  isplitl [HO]; · iexact HO
  iintro ⟨HO, HcS⟩
  -- the slots, one by one
  iapply (recvAll_run K κ c _ _ slots _)
  isplitr; · iexact HR
  isplitl [Hco HcV]
  · rw [each_slots, around c (fun s : Dev nD => cred (tallyAt (recvCell c s) () N))]
    isplitl [Hco] <;> iassumption
  isplitl [HatV]; · rw [each_slots]; iexact HatV
  isplitl [Hw]; · unfold wPts; iexact Hw
  isplitl [HO]; · iexact HO
  iintro %acc ⟨HO, Hw, Hgot⟩
  ihave Hgot := (got_all c) $$ Hgot
  icases Hgot with ⟨Hps, Hrow, HzV⟩
  -- the receive buffer, out of its invariant
  ihave HW := (inv_window K κ c) $$ HR
  icases HW with #HW
  imod (window_out (κ c) c) $$ [Hps] with Hxg
  · isplitr; · iexact HW
    iexact Hps
  -- the rows sent, back
  iapply (drainAll_run K κ c _ _ turns)
  simp only [each_turns]
  isplitr; · iexact HR
  isplitl [HcS]; · iexact HcS
  isplitl [HatS]; · iexact HatS
  isplitl [HO]; · iexact HO
  rw [bigSep_sep']
  iintro ⟨HO, Hrows, HzS⟩
  -- the result
  iapply (wp_load 𝒱₀ (c : Thread nD τ) none Set.univ (m := Memref.whole cc0_stg2_0) (Finset.subset_univ _)) $$ Hout; iintro Hout
  iapply (wp_store 𝒱₀ (c : Thread nD τ) none Set.univ (m := Memref.whole cc0_stg2_0) (r := Rect.unit (s := S64x2048) ![0, 0] S64x2048.size inb_S64x2048_S64x2048_0_0) (Mk := Finset.univ) (Finset.subset_univ _)) $$ Hout; iintro Hout
  -- the unused cell closes
  ihave HJ := (inv_at K κ (c, .inl 0)) $$ HR
  icases HJ with ⟨#HJ, -⟩
  imod (Rounds.cell_close ER talk (Set.mem_univ (K (c, .inl 0))) (fun h => h) (R := 0) (duties_idle c)) $$ [HatI] with HzI
  · isplitr; · iexact HJ
    iexact HatI
  rw [wp_ret]; imodintro
  iapply Hk
  unfold bodyPost Φ₁
  isplitl [Hrow Hrows Hxg HzI HzS HzV]
  · isplitl [Hrow Hrows]
    · iapply (xbf_join c fb)
      isplitl [Hrow] <;> iassumption
    isplitl [Hxg]; · iexact Hxg
    rw [own_eq (fun sm => semVal ((c : Thread nD τ), sm) 0)]
    isplitl [HzI HzS]
    · isplitl [HzI] <;> iassumption
    iexact HzV
  isplitl [HO]; · iexact HO
  isplitl [Hx]; · iexists _; iexact Hx
  isplitl [Hw]; · unfold wPts; iexact Hw
  iexists _; iexact Hout

theorem printed_run (c : Dev nD) : (bodyPre c : sProp 𝕄) ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) xbf (Memref.isWhole_whole _) xg (Memref.isWhole_whole _) cc0_scratch2 cc0_scratch3)
    (fun _ => bodyPost c) := by
  rw [cc0_body_eq]
  iintro H
  iapply (sound_body c fun _ => bodyPost c)
  isplitl [H]; · iexact H
  iintro H; iexact H

/-- What the library says the device owes before and after the body, and this one's. -/
theorem owed_before (c : Dev nD) : ((dats m 0 c).owesAt () t₀.castSucc : sProp 𝕄) ⊢ owesAny c (recvDues c turns) := by
  unfold RDat.owesAt owesAny
  iintro ⟨%W, -, H⟩
  iexists W; iexact H
theorem owed_after (c : Dev nD) : (owesAny c 0 : sProp 𝕄) ⊢ (dats m 0 c).owesAt () t₀.succ := by
  unfold RDat.owesAt owesAny
  iintro ⟨%W, H⟩
  iexists W
  isplitr; · ipureintro; exact fun _ _ => Or.inl trivial
  iexact H

/-- The library's body obligation on device `c`. -/
theorem body_obligation (c : Dev nD) : (dats m 0 c).BodyObligation (defs₀ (F := F)) 𝒱₀ () Set.univ := fun t Y _ => by
  rw [fin_N t]
  rw [bigSep_W0, bigSep_W0]
  simp only [owns_whole_eq]
  rw [show (dats m 0 c).Φ t₀.castSucc = Φ₀ c from rfl, show (dats m 0 c).Φ t₀.succ = Φ₁ c from rfl]
  refine .trans ?_ ((printed_run (F := F) c).trans (wp_mono frame _ Set.univ fun _ => ?_))
  · unfold bodyPre
    iintro ⟨HΦ, HO, ⟨%f0, -, H0⟩, ⟨%f1, -, H1⟩, ⟨%f2, -, H2⟩⟩
    isplitl [HΦ]; · iexact HΦ
    isplitl [HO]; · iapply (owed_before m c); iexact HO
    isplitl [H0]; · iexists f0; iexact H0
    isplitl [H1]; · iexists f1; iexact H1
    iexists f2; iexact H2
  · unfold bodyPost
    iintro ⟨HΦ, HO, ⟨%f0, H0⟩, ⟨%f1, H1⟩, ⟨%f2, H2⟩⟩
    isplitl [HΦ]; · iexact HΦ
    isplitl [HO]; · iapply (owed_after m c); iexact HO
    isplitl [H0]
    · iexists f0
      isplitr; · ipureintro; trivial
      iexists f0
      isplitr; · ipureintro; rfl
      iexact H0
    isplitl [H1]
    · iexists f1
      isplitr; · ipureintro; trivial
      iexists f1
      isplitr; · ipureintro; rfl
      iexact H1
    · iexists f2
      isplitr; · ipureintro; trivial
      iexists f2
      isplitr; · ipureintro; rfl
      iexact H2

end Cert.Filed.Proof

end
-- ==== Proof.FiledLaunch.lean ====
/- The launch of the kernel as filed: the cells' ghost state minted and dealt, the receive buffers put behind their invariants, the credit each device gets for what the others owe it. -/
module

public import proofs.«01_k».proof.Proof.FiledBody
public import Idealize.ShloMosaic.Lib.Pipeline.CollectiveSegs

@[expose] public section

set_option maxRecDepth 16384

noncomputable section

namespace Cert.Filed.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

theorem ownSemFacts : Pipeline.OwnSemFacts cfg0.spec osem := by decide

theorem osem_inj : Function.Injective osem := by decide +kernel
theorem kcell_inj : Function.Injective (kcell : Dev nD × KI → GSem nD τ sig) := by
  rintro ⟨c, k⟩ ⟨c', k'⟩ h
  obtain rfl : c = c' := congrArg (fun g : GSem nD τ sig => g.1.1) h
  obtain rfl : k = k' := osem_inj (congrArg Prod.snd h)
  rfl
def ourCells : Finset (GSem nD τ sig) := Finset.univ.map ⟨kcell, kcell_inj⟩

/-- What a device's cells have tokens for: its sends, its slots, and the passes for its slots. -/
abbrev Duty : Type := Fin 31 ⊕ Fin 32 ⊕ Fin 32
def dutyAt : Duty → SemLoc sig × D
  | .inl r => (.dma (sendS r), false)
  | .inr (.inl s) => (.dma (recvS s), false)
  | .inr (.inr s) => (.dma (recvS s), true)
theorem dutyAt_inj : Function.Injective dutyAt := by decide +kernel
abbrev tokOf (cj : Dev nD × Duty) : GSem nD τ sig × ℕ × D := (((cj.1 : Thread nD τ), (dutyAt cj.2).1), 0, (dutyAt cj.2).2)
theorem tokOf_inj : Function.Injective tokOf := by
  rintro ⟨c, j⟩ ⟨c', j'⟩ h
  obtain rfl : c = c' := congrArg (fun x : GSem nD τ sig × ℕ × D => x.1.1.1) h
  obtain rfl : j = j' := dutyAt_inj (congrArg (fun x : GSem nD τ sig × ℕ × D => (x.1.2, x.2.2)) h)
  rfl
def ourToks : Finset (GSem nD τ sig × ℕ × D) := Finset.univ.map ⟨tokOf, tokOf_inj⟩

def u₀ : UU := (initOf (Pipeline.cells cfgs cellOf_inj) (Pipeline.launchToks cfgs cellOf_inj), initOf ourCells ourToks)

/-- The tokens of device `c`'s cells. -/
def toks (c : Dev nD) : sProp 𝕄 :=
  iprop((bigSep Finset.univ fun r : Fin 31 => dutyTok ER (sendCell c r) 0 false)
    ∗ (bigSep Finset.univ fun s : Fin 32 => dutyTok ER (recvCell c s) 0 false) ∗ (bigSep Finset.univ fun s : Fin 32 => pass c s))

/-- What the launch deals device `c`. -/
def G (c : Dev nD) : sProp 𝕄 :=
  iprop((bigSep Finset.univ fun k : KI => roundState ER talk (kcell (c, k)) 0)
    ∗ (bigSep Finset.univ fun k : KI => iprop(atPos ER (kcell (c, k)) 0 ∅ 0 ∗ reached ER (kcell (c, k)) 0)) ∗ toks c)
/-- What becomes of it once all devices' is put together. -/
def G' (c : Dev nD) : sProp 𝕄 := iprop(∃ K κ, ghost K κ c)

theorem fund : BI.own (ER (initOf ourCells ourToks)) ⊢ (|==> bigSep Finset.univ (G) : sProp 𝕄) := by
  have hX (Φ : GSem nD τ sig → sProp 𝕄) : bigSep ourCells Φ = bigSep Finset.univ fun c : Dev nD => bigSep Finset.univ fun k : KI => Φ (kcell (c, k)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks; rw [bigSep_map, bigSep_univ_prod]
    exact bigSep_congr fun c _ => by
      unfold toks
      refine (BI.bigSep_univ_sum _).trans ?_
      congr 1
      exact BI.bigSep_univ_sum _
  iintro HX
  imod (Rounds.fund ER talk ourCells ourToks) $$ HX with ⟨Hst, Hr, Hat, Htok⟩
  imodintro
  ihave Hst' := (Entails.of_eq (hX fun g => roundState ER talk g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ (∃ f, xgPts c f) ∗ G c)
      ⊢ |={Set.univ}=> iprop((bigSep Finset.univ fun k => iprop(∃ κ : ℕ, cellInv ER talk κ (kcell (c, k))))
          ∗ (∃ κ : ℕ, inv κ (window c))
          ∗ (bigSep Finset.univ fun k => iprop(atPos ER (kcell (c, k)) 0 ∅ 0 ∗ reached ER (kcell (c, k)) 0)) ∗ toks c) := by
  unfold G
  iintro ⟨Hv, ⟨%f, Hg⟩, Hst, Hat, Htok⟩
  imod (show iprop(Pipeline.ownSems0 (Ix := Unit) (Name := ℕ) (U := UU) (Lvl := ℕ) (Val := Elt F) (τ := τ) osem c ∗ bigSep Finset.univ fun k : KI => roundState ER talk (kcell (c, k)) 0)
      ⊢ (|={Set.univ}=> bigSep Finset.univ fun k => iprop(∃ κ : ℕ, cellInv ER talk κ (kcell (c, k))) : sProp 𝕄) from by
        rw [show (Pipeline.ownSems0 (Ix := Unit) (Name := ℕ) (U := UU) (Lvl := ℕ) (Val := Elt F) (τ := τ) osem c : sProp 𝕄)
          = bigSep Finset.univ fun k : KI => semVal (kcell (c, k)) 0 from rfl, ← bigSep_sep']
        exact (bigSep_mono fun k _ => (Rounds.body_intro ER talk (kcell (c, k))).trans inv_alloc).trans (bigSep_fupd _ _)) $$ [Hv Hst] with Hinv
  · isplitl [Hv] <;> iassumption
  imod (show (xgPts c f : sProp 𝕄) ⊢ |={Set.univ}=> iprop(∃ κ : ℕ, inv κ (window c)) from (window_in c f).trans inv_alloc) $$ Hg with Hwin
  imodintro
  isplitl [Hinv]; · iexact Hinv
  isplitl [Hwin]; · iexact Hwin
  isplitl [Hat]; · iexact Hat
  iexact Htok

/-- The tokens after dealing: each device holds those of the duties it pays, and the passes for the slots it writes. -/
def payToks (c : Dev nD) : sProp 𝕄 :=
  iprop((bigSep Finset.univ fun r : Fin 31 => dutyTok ER (sendCell c r) 0 false)
    ∗ (dutyTok ER (recvCell c c) 0 false ∗ bigSep Finset.univ fun r : Fin 31 => dutyTok ER (recvCell (peer c r) c) 0 false)
    ∗ (pass c c ∗ bigSep Finset.univ fun r : Fin 31 => pass (peer c r) c))

/-- Turn by turn, what each device has of `r` for its peer in turn `rev r`, the peer has in turn `r`. -/
theorem swap_turns (Ψ : Dev nD → Dev nD → Fin 31 → sProp 𝕄) :
    (bigSep Finset.univ fun c : Dev nD => bigSep Finset.univ fun r : Fin 31 => Ψ c (peer c r) r)
      = bigSep Finset.univ fun c : Dev nD => bigSep Finset.univ fun r : Fin 31 => Ψ (peer c r) c r.rev := by
  rw [bigSep_univ_comm, bigSep_univ_comm (fun (c : Dev nD) (r : Fin 31) => Ψ (peer c r) c r.rev),
    bigSep_univ_equiv Fin.revPerm (fun r : Fin 31 => bigSep Finset.univ fun c : Dev nD => Ψ c (peer c r) r)]
  refine bigSep_congr fun r _ => ?_
  rw [bigSep_univ_equiv (rot r)]
  refine bigSep_congr fun c _ => ?_
  show Ψ (peer c r) (peer (peer c r) r.rev) r.rev = _
  rw [peer_rev]

/-- Slot by slot, what each device has for the slots of its own buffer, each sender has for its slot of the receivers'. -/
theorem swap_slots (Ψ : Dev nD → Fin 32 → sProp 𝕄) :
    (bigSep Finset.univ fun c : Dev nD => bigSep Finset.univ fun s : Fin 32 => Ψ c s)
      = bigSep Finset.univ fun c : Dev nD => iprop(Ψ c c ∗ bigSep Finset.univ fun r : Fin 31 => Ψ (peer c r) c) := by
  rw [bigSep_congr (s := Finset.univ) fun (c : Dev nD) _ => around c (Ψ c), bigSep_sep', swap_turns fun c c' _ => Ψ c c', ← bigSep_sep']
theorem toks_around : (bigSep Finset.univ fun c : Dev nD => (toks c : sProp 𝕄)) = bigSep Finset.univ fun c : Dev nD => payToks c := by
  unfold toks payToks
  rw [bigSep_sep', bigSep_sep', swap_slots fun c s => dutyTok ER (recvCell c s) 0 false, swap_slots fun c s => pass c s, ← bigSep_sep', ← bigSep_sep']

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × KI → ℕ) (κ : Dev nD → ℕ) (c : Dev nD) : (iprop(records K κ ∗ linear c) : sProp 𝕄) ⊢ G' c := by
  unfold G' ghost
  iintro H; iexists K, κ; iexact H

theorem regroup :
    (bigSep Finset.univ fun c : Dev nD => iprop((bigSep Finset.univ fun k => iprop(∃ κ : ℕ, cellInv ER talk κ (kcell (c, k))))
          ∗ (∃ κ : ℕ, inv κ (window c))
          ∗ (bigSep Finset.univ fun k => iprop(atPos ER (kcell (c, k)) 0 ∅ 0 ∗ reached ER (kcell (c, k)) 0)) ∗ toks c) : sProp 𝕄)
      ⊢ bigSep Finset.univ (G' (F := F)) := by
  rw [bigSep_sep', bigSep_sep', bigSep_sep', ← bigSep_univ_prod (fun ck : Dev nD × KI => iprop(∃ κ : ℕ, cellInv ER talk κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄)), toks_around]
  iintro ⟨HI, HW, ⟨Hat, #HR⟩, Htok⟩
  ihave HK := (BI.bigSep_exists_pi Finset.univ (fun (ck : Dev nD × KI) (κ : ℕ) => (cellInv ER talk κ (kcell ck) : sProp 𝕄))) $$ HI
  icases HK with ⟨%K, #HI⟩
  ihave HK := (BI.bigSep_exists_pi Finset.univ (fun (c : Dev nD) (κ : ℕ) => (inv κ (window c) : sProp 𝕄))) $$ HW
  icases HK with ⟨%κ, #HW⟩
  iapply (with_persistent (R := records K κ) fun c _ => ghost_intro K κ c)
  isplitr
  · unfold records
    isplitr
    · isplitr; · iexact HI
      iexact HR
    · iexact HW
  · iapply (Entails.of_eq (show iprop((bigSep Finset.univ fun c : Dev nD => bigSep Finset.univ fun k : KI => atPos ER (kcell (c, k)) 0 ∅ 0)
        ∗ bigSep Finset.univ payToks) = (bigSep Finset.univ linear : sProp 𝕄) from (bigSep_sep' _ _ _).symm))
    isplitl [Hat]; · iexact Hat
    iexact Htok

/-- From every device's own cells, receive buffer and ghost state: the invariants, known to all, and each device's share. -/
theorem glob : (bigSep Finset.univ fun c => iprop(Pipeline.ownSems0 (Ix := Unit) (Name := ℕ) (U := UU) (Lvl := ℕ) (Val := Elt F) (τ := τ) osem c ∗ (∃ f, xgPts c f) ∗ G c) : sProp 𝕄)
    ⊢ |={Set.univ}=> bigSep Finset.univ (G' (F := F)) :=
  ((bigSep_mono fun c _ => core_alloc c).trans (bigSep_fupd _ _)).trans (BI.fupd_mono regroup)

/-! ## The launch credit -/

theorem recvDues_eq (c : Dev nD) : recvDues c turns = ∑ r : Fin 31, tallyAt (recvCell (peer c r) c) () N :=
  (Fin.sum_univ_def fun r : Fin 31 => (tallyAt (recvCell (peer c r) c) () N : CellTallies nD τ sig Unit)).symm

/-- What each device owes at launch: the copies into its peers' slots. -/
def O₀ (c : Dev nD) : CellTallies nD τ sig Unit := recvDues c turns

theorem creds (c : Dev nD) : (Pipeline.launchCred O₀ c : sProp 𝕄)
    ⊢ bigSep Finset.univ fun r : Fin 31 => cred (tallyAt (recvCell c (peer c r)) () N) := by
  have e : (O₀ : Dev nD → CellTallies nD τ sig Unit) = fun d => ∑ r : Fin 31, tallyAt (recvCell (peer d r) d) () N := by
    funext d; unfold O₀; rw [recvDues_eq]
  rw [e, Pipeline.launchCred_sum,
    bigSep_univ_equiv Fin.revPerm (fun r : Fin 31 => (cred (tallyAt (recvCell c (peer c r)) () N) : sProp 𝕄))]
  exact Entails.of_eq (bigSep_congr (s := Finset.univ) fun (r : Fin 31) _ =>
      Pipeline.launchCred_of_sum (fun d => tallyAt (recvCell (peer d r) d) () N) (fun t => tallyAt (recvCell t (peer t r.rev)) () N)
        (by
          rw [← (rot r).sum_comp fun t => (tallyAt (recvCell t (peer t r.rev)) () N : CellTallies nD τ sig Unit)]
          refine Finset.sum_congr rfl fun d _ => ?_
          show _ = tallyAt (recvCell (peer d r) (peer (peer d r) r.rev)) () N
          rw [peer_rev])
        (fun d g hg => by
          by_contra h
          exact hg (tallyAt_ne_cell (fun e => h (by rw [e])) _ _)) c)

end Cert.Filed.Proof

end
-- ==== Proof.FiledRun.lean ====
/- The run of the kernel as filed: the call entered with the receive buffer taken from behind its invariant, the launch, and what memory holds afterwards. -/
module

public import proofs.«01_k».proof.Proof.FiledLaunch
public import Idealize.ShloMosaic.Lib.Pipeline.CollectiveSegs

@[expose] public section

set_option maxRecDepth 16384

noncomputable section

namespace Cert.Filed.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

local notation "𝔻" => Pipeline.defs (pcfgs (F := F)) defs₀
local notation "𝕍" => Variants.lift 𝒱₀

/-- No operand is read ahead of the call. -/
abbrev adm (p : Fin 1) : (pcfgs (F := F) p).Adm := (cfgs p).toPCfg_adm

/-- A device's scoped buffers: the staging buffers, the copy of the operand, the receive buffer. -/
theorem scoped_split (c : Dev nD) : (scopedBufs (c : Thread nD τ) : sProp 𝕄)
    = iprop(Dat.staging cfg0 c ∗ (∃ f, xbfPts c f) ∗ ∃ f, xgPts c f) := by
  rw [Pipeline.scopedBufs_split cfgs (0 : Fin 1) winFacts0.stage_scoped winFacts0.stage_inj stage_whole0 c]
  exact congrArg (fun P => iprop(Dat.staging cfg0 c ∗ P)) (scopedRest0_eq c)

/-! ## Entering the call -/

/-- The call is entered with what the device holds and the receive buffer, which its own pass takes from behind the invariant for the step. -/
theorem call_open (c : Dev nD) (κ : ℕ) (v : (𝕍).V) {k : PUnit → Prog (TpuEff nD τ sig (Elt F) (Pipeline.Sig Λ₀ (Fin 1) fun p => (pcfgs (F := F) p).Adm) .tc) PUnit}
    {Q : PUnit → sProp 𝕄} :
    iprop(inv κ (window c) ∗ pass c c ∗ Dat.staging cfg0 c ∗ ∃ f, xbfPts c f)
      ⊢ iprop(((pass c c ∗ Dat.staging cfg0 c ∗ ∃ f, xbfPts c f) -∗ wp frame (wpE 𝔻 𝕍 (c : Thread nD τ) (some v)) Set.univ (Pipeline.prun pcfgs 0)
                fun r => kernelExitSpec (c : Thread nD τ) fun _ => wp frame (wpE 𝔻 𝕍 (c : Thread nD τ) none) Set.univ (k r) Q)
          -∗ wp frame (wpE 𝔻 𝕍 (c : Thread nD τ) none) Set.univ (.op (.customCall (Pipeline.entry 0) ()) k) Q) := by
  rw [wp_op, wpE'_customCall_eq]
  iintro ⟨#HI, Hp, Hst, Hb⟩ Hk
  imodintro
  imod (inv_acc (Set.mem_univ κ)) $$ HI with ⟨HW, Hclose⟩
  ihave H := (window_pass c c) $$ [HW Hp]
  · isplitl [HW] <;> iassumption
  icases H with ⟨Hg, Hp⟩
  imodintro
  rw [scopedSpec_apply, scoped_split]
  isplitl [Hst Hb Hg]
  · isplitl [Hst]; · iexact Hst
    isplitl [Hb] <;> iassumption
  iintro ⟨Hst, Hb, Hg⟩
  icases Hg with ⟨%f, Hg⟩
  ihave H := Hclose $$ [Hg]
  · iapply (window_in c f); iexact Hg
  imod H
  imodintro
  iapply (callArm_descend 𝕍 (c : Thread nD τ) none Set.univ _ true _)
  iexists v
  isplitr; · ipureintro; exact fun u hu => nomatch hu
  simp only [bodyOf, wp_bind]
  have leave (r : PUnit) : (kernelExitSpec (c : Thread nD τ) fun _ => wp frame (wpE 𝔻 𝕍 (c : Thread nD τ) none) Set.univ (k r) Q)
      ⊢ wp frame (wpE 𝔻 𝕍 (c : Thread nD τ) (some v)) Set.univ (.op .kernelExit fun _ => .ret r)
          fun x => wp frame (wpE 𝔻 𝕍 (c : Thread nD τ) none) Set.univ (k x) Q := by
    rw [wp_op, wpE_kernelExit_eq, wp_ret, kernelExitSpec_apply, kernelExitSpec_apply]
    iintro ⟨Hz, H⟩
    imodintro
    isplitl [Hz]; · iexact Hz
    iintro Hz
    ispecialize H $$ Hz
    icases H with ⟨Hsc, H⟩
    isplitl [Hsc]; · iexact Hsc
    iintro Hsc
    imodintro
    iapply H; iexact Hsc
  iapply (wp_mono frame _ Set.univ leave)
  rw [Pipeline.defs_tc_entry (pcfgs (F := F)) defs₀ c (0 : Fin 1) ()]
  iapply Hk
  isplitl [Hp]; · iexact Hp
  isplitl [Hst] <;> iassumption

variable (m : (ℓ : Loc nD τ sig) → Buf (Elt F) ℓ) (ρ : Dev nD → PrngReg)

theorem share_eq (c : Dev nD) (w : Fin cfg0.W) : (dats (F := F) m 0 c).share w = fullShare := by unfold RDat.share; split <;> rfl

/-- The device's semaphores of no use to the call: what is left over. -/
abbrev idle (c : Dev nD) : sProp 𝕄 := Pipeline.idleSems0 cfgs cellOf_inj (0 : Fin 1) ownSemFacts c
theorem sems_split (c : Dev nD) : (scopedSems0 (c : Thread nD τ) : sProp 𝕄)
    = iprop((Pipeline.cellsSems0 cfgs 0 c ∗ Pipeline.ownSems0 osem c) ∗ idle c) :=
  Pipeline.scopedSems0_split cfgs cellOf_inj 0 winFacts0.to₀ ownSemFacts c

/-- What the device holds of the copies in and out of its staging buffers. -/
def staged (c : Dev nD) (κ' : GSem nD τ sig → ℕ) : sProp 𝕄 :=
  iprop(Pipeline.RDat.cellsWaits cfgs (dats m) () 0 c ∗ Pipeline.RDat.cellsInit cfgs (dats m) EP κ' 0 c ∗ Pipeline.toksInit cfgs EP 0 c)

/-- What the device ends with: its arrays, nothing owed, its semaphores at zero. -/
def ended (c : Dev nD) : sProp 𝕄 :=
  iprop((dats m 0 c).arraysAt cfg0.N ∗ owesAny c 0 ∗ scopedSems0 (c : Thread nD τ))

theorem pref_none (c : Dev nD) : (emp : sProp 𝕄)
    ⊢ Pipeline.prefHeld (Ix := Unit) (Name := ℕ) (U := UU) (Lvl := ℕ) (pcfgs (F := F) 0).pre c (fun _ => fullShare) (adm (F := F) 0).1 := by
  unfold Pipeline.prefHeld
  exact Entails.of_eq BI.bigSep_empty.symm

theorem call_run (c : Dev nD) (κ' : GSem nD τ sig → ℕ) {k : PUnit → Prog (TpuEff nD τ sig (Elt F) (Pipeline.Sig Λ₀ (Fin 1) fun p => (pcfgs (F := F) p).Adm) .tc) PUnit}
    {Q : PUnit → sProp 𝕄} :
    iprop((start c ∗ Dat.staging cfg0 c ∗ ∃ f, xbfPts c f) ∗ (dats m 0 c).arrays (dats m 0 c).A ∗ owesAny c (O₀ c) ∗ staged m c κ' ∗ idle c)
      ⊢ iprop((ended m c -∗ wp frame (wpE 𝔻 𝕍 (c : Thread nD τ) none) Set.univ (k ⟨⟩) Q)
          -∗ wp frame (wpE 𝔻 𝕍 (c : Thread nD τ) none) Set.univ (.op (.customCall (Pipeline.entry 0) ()) k) Q) := by
  unfold start ghost linear staged
  iintro ⟨⟨⟨⟨%K, %κ, #HR, Hat, HtS, HtV, Hp, Hps⟩, Hcr⟩, Hst, Hb⟩, Ha, HO, ⟨Hw, Hi, Ht⟩, Hidle⟩ Hk
  ihave HW := (inv_window K κ c) $$ HR
  icases HW with #HW
  iapply (call_open c (κ c) (Sum.inr (cfg0.tripCount + 1) : (𝕍).V)) $$ [Hp Hst Hb]
  · isplitr; · iexact HW
    isplitl [Hp]; · iexact Hp
    isplitl [Hst] <;> iassumption
  iintro ⟨Hp, Hst, Hb⟩
  iapply (Pipeline.RDat.wp_prun (pcfgs (F := F)) adm (dats m) () EP κ' cellOf_inj (0 : Fin 1) defs₀ 𝒱₀ (fun _ => fullShare) c Set.univ (fun _ _ => Set.mem_univ _)
    (body_obligation m c) (some (Sum.inr (cfg0.tripCount + 1) : (𝕍).V))
    (Q := fun r => kernelExitSpec (c : Thread nD τ) fun _ => wp frame (wpE 𝔻 𝕍 (c : Thread nD τ) none) Set.univ (k r) Q)
    (fun u hu => by cases hu; exact Sum.Lex.inr (Nat.lt_succ_self _))) $$ [Hat HtS HtV Hps Hcr Hp Hst Hb Ha HO Hw Hi Ht]
  · isplitr; · iapply (pref_none c); iempintro
    iintro -
    unfold Pipeline.RDat.RunPre Pipeline.PerCore.RDat.RunPre RDat.Pre
    isplitr [Hw Hi Ht]
    · isplitl [Ha]; · iexact Ha
      isplitl [Hst]; · iexact Hst
      isplitl [HO]
      · unfold owesAny
        icases HO with ⟨%W, HO⟩
        iexists W
        isplitr; · ipureintro; exact fun _ _ => Or.inl trivial
        iexact HO
      · iapply (Entails.of_eq (show Φ₀ c = (dats m 0 c).Φ 0 from rfl))
        unfold Φ₀ start ghost linear
        isplitr [Hb]
        · isplitr [Hcr]
          · iexists K, κ
            isplitr; · iexact HR
            isplitl [Hat]; · iexact Hat
            isplitl [HtS]; · iexact HtS
            isplitl [HtV]; · iexact HtV
            isplitl [Hp] <;> iassumption
          · iexact Hcr
        · iexact Hb
    · isplitl [Hw]; · iexact Hw
      isplitl [Hi] <;> iassumption
  iintro ⟨Hpost, Hend⟩
  imod (Pipeline.RDat.cellsEnd_close cfgs (dats m) EP κ' cellOf_inj (0 : Fin 1) c Set.univ (fun _ _ => Set.mem_univ _) block_pos0) $$ Hend with Hz
  rw [kernelExitSpec_apply]
  imodintro
  unfold RDat.Post
  icases Hpost with ⟨Ha, Hst, HO, HΦ⟩
  ihave HΦ := (Entails.of_eq (show (dats m 0 c).Φ (Fin.last cfg0.N) = Φ₁ c from rfl)) $$ HΦ
  unfold Φ₁
  icases HΦ with ⟨Hb, Hg, Hos⟩
  rw [sems_split, scoped_split]
  isplitl [Hz Hos Hidle]
  · isplitr [Hidle]
    · isplitl [Hz]; · iexact Hz
      unfold Pipeline.ownSems0; iexact Hos
    · iexact Hidle
  iintro Hss
  isplitl [Hst Hb Hg]
  · isplitl [Hst]; · iexact Hst
    isplitl [Hb] <;> iassumption
  iintro -
  iapply Hk
  unfold ended
  isplitl [Ha]; · iexact Ha
  isplitl [HO]
  · unfold owesAny
    icases HO with ⟨%W, -, HO⟩
    iexists W; iexact HO
  rw [sems_split]; iexact Hss

/-! ## The launch -/

/-- What the launch leaves device `c` with, its own cells, its receive buffer and its right to set levels apart. -/
def kept (c : Dev nD) : sProp 𝕄 :=
  iprop((Dat.staging cfg0 c ∗ ∃ f, xbfPts c f) ∗ (dats m 0 c).arrays (dats m 0 c).A ∗ owesAny c (O₀ c)
    ∗ Pipeline.cellsSems0 cfgs 0 c ∗ idle c ∗ Pipeline.launchCred O₀ c)

theorem arrays_in (c : Dev nD) : unscopedBufs c (fun b => m ((c : Thread nD τ).loc b)) ⊢ ((dats m 0 c).arrays (dats m 0 c).A : sProp 𝕄) := by
  rw [Pipeline.unscopedBufs_split cfgs (0 : Fin 1) winFacts0.arr_unscoped winFacts0.arr_inj c]
  iintro ⟨Ha, -⟩
  iapply (Entails.of_eq (Pipeline.RDat.arrays_eq (pcfgs (F := F)) adm (dats m) (0 : Fin 1) c arr_whole0 (share_eq m c) (dats m 0 c).A).symm)
  iexact Ha

theorem dealt (c : Dev nD) :
    coreInit (Ix := Unit) (Name := ℕ) (U := UU) (Lvl := ℕ) (Pipeline.owing O₀) 0 (⟨m, fun _ => 0, ρ⟩ : MemSt nD τ sig (Elt F)) (c : Thread nD τ)
      ⊢ iprop((Pipeline.ownSems0 osem c ∗ ∃ f, xgPts c f) ∗ kept m c ∗ levels0 c) := by
  refine (Pipeline.coreInit_boundary_owing O₀ m ρ c).trans ?_
  unfold boundary kept
  rw [scoped_split, sems_split]
  iintro ⟨⟨⟨Hst, Hb, Hg⟩, ⟨⟨Hc, Hos⟩, Hidle⟩, -⟩, Hub, -, HO, Hlv, -, Hcr⟩
  isplitl [Hos Hg]
  · isplitl [Hos] <;> iassumption
  isplitr [Hlv]
  · isplitl [Hst Hb]
    · isplitl [Hst] <;> iassumption
    isplitl [Hub]; · iapply (arrays_in m c); iexact Hub
    isplitl [HO]; · unfold owesAny; iexists ∅; iexact HO
    isplitl [Hc]; · iexact Hc
    isplitl [Hidle] <;> iassumption
  · iexact Hlv

theorem drop_left (P Q : sProp 𝕄) : iprop(P ∗ Q) ⊢ Q := by
  iintro ⟨-, H⟩; iexact H

theorem add_emp (P : sProp 𝕄) : P ⊢ iprop(P ∗ emp) := by
  iintro H
  isplitl [H]; · iexact H
  iempintro

/-- The levels, set once by everybody and known to all. -/
theorem levels_set : (bigSep Finset.univ fun c : Dev nD => (levels0 c : sProp 𝕄)) ⊢ |==> levAts L lv := by
  have hset (c : Dev nD) : (levels0 c : sProp 𝕄) ⊢ |==> coreLevAts (c : Thread nD τ) L lv :=
    (lev_assign_cells (c : Thread nD τ) L lv).trans (BI.bupd_mono (drop_left _ _))
  have hidle (c : Thread nD τ) (h : c.2 ≠ .tc) : (coreLevAts c L lv : sProp 𝕄) = BI.emp := by
    unfold coreLevAts
    rw [bigSep_congr (Ψ := fun _ : SemLoc sig => (BI.emp : sProp 𝕄)) fun sm _ => by rw [L_of_ne (c, sm) h, BI.bigSep_empty], BI.bigSep_emp_const]
  have hrest : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => hidle (d, p) (Finset.ne_of_mem_erase hp)).trans (BI.bigSep_emp_const _),
      BI.bigSep_emp_const]
  refine (bigSep_mono fun c _ => hset c).trans ((BI.bigSep_bupd _ _).trans (BI.bupd_mono ?_))
  refine .trans ?_ (levAts_of_cores L lv)
  rw [bigSep_threads (fun c : Thread nD τ => coreLevAts c L lv), hrest]
  exact add_emp _

theorem waits (c : Dev nD) : (levAts L lv : sProp 𝕄) ⊢ Pipeline.RDat.cellsWaits cfgs (dats m) () 0 c :=
  Pipeline.RDat.cellsWaits_intro cfgs (dats m) () 0 c fun w s t =>
    mayWait_stage c _ (by fin_cases w <;> fin_cases s <;> decide) _ (by
      rcases t with ⟨_ | _, ht⟩
      · exact Or.inl rfl
      · exact Or.inr rfl)

/-- What device `c` runs from. -/
def ready (c : Dev nD) : sProp 𝕄 :=
  iprop(kept m c ∗ levAts L lv ∗ (Pipeline.cellsGhost cfgs EP 0 c ∗ Pipeline.toksInit cfgs EP 0 c) ∗ G' c)

theorem pick_one (Φ : Fin 1 → Dev nD → sProp 𝕄) :
    (bigSep Finset.univ fun c : Dev nD => bigSep Finset.univ fun p => Φ p c) ⊢ bigSep Finset.univ fun c : Dev nD => Φ 0 c :=
  bigSep_mono fun _ _ => BI.bigSep_elim (Finset.mem_univ (0 : Fin 1))

theorem three_parts (A B C : Dev nD → sProp 𝕄) : (bigSep Finset.univ fun c => iprop(A c ∗ B c ∗ C c))
    ⊢ iprop((bigSep Finset.univ fun c => A c) ∗ (bigSep Finset.univ fun c => B c) ∗ bigSep Finset.univ fun c => C c) := by
  rw [bigSep_sep', bigSep_sep']

/-- Every device's share of the launch, sorted. -/
theorem all_dealt :
    (bigSep Finset.univ fun d : Dev nD =>
        coreInit (Ix := Unit) (Name := ℕ) (U := UU) (Lvl := ℕ) (Pipeline.owing O₀) 0 (⟨m, fun _ => 0, ρ⟩ : MemSt nD τ sig (Elt F)) (d : Thread nD τ))
      ⊢ (iprop((bigSep Finset.univ fun c : Dev nD => iprop(Pipeline.ownSems0 osem c ∗ ∃ f, xgPts c f))
        ∗ (bigSep Finset.univ fun c : Dev nD => kept m c) ∗ bigSep Finset.univ fun c : Dev nD => levels0 c) : sProp 𝕄) :=
  (bigSep_mono fun c _ => dealt m ρ c).trans (three_parts _ _ _)

theorem with_ghost : (iprop((bigSep Finset.univ fun c : Dev nD => iprop(Pipeline.ownSems0 (Ix := Unit) (Name := ℕ) (U := UU) (Lvl := ℕ) (Val := Elt F) (τ := τ) osem c ∗ ∃ f, xgPts c f)) ∗ bigSep Finset.univ G) : sProp 𝕄)
    ⊢ bigSep Finset.univ fun c => iprop(Pipeline.ownSems0 (Ix := Unit) (Name := ℕ) (U := UU) (Lvl := ℕ) (Val := Elt F) (τ := τ) osem c ∗ (∃ f, xgPts c f) ∗ G c) := by
  rw [bigSep_sep', bigSep_sep', bigSep_sep']
  iintro ⟨⟨Ha, Hb⟩, Hc⟩
  isplitl [Ha]; · iexact Ha
  isplitl [Hb] <;> iassumption

theorem spread (P : sProp 𝕄) [BI.Persistent P] : P ⊢ bigSep Finset.univ fun _ : Dev nD => P :=
  BI.bigSep_intro_persistent (S := Finset.univ) fun _ _ => BI.Entails.refl P

theorem all_ready : (iprop((bigSep Finset.univ fun c : Dev nD => kept m c) ∗ levAts L lv
      ∗ (bigSep Finset.univ fun c : Dev nD => bigSep Finset.univ fun p : Fin 1 => Pipeline.cellsGhost cfgs EP p c)
      ∗ (bigSep Finset.univ fun c : Dev nD => bigSep Finset.univ fun p : Fin 1 => Pipeline.toksInit cfgs EP p c)
      ∗ bigSep Finset.univ fun c : Dev nD => G' c) : sProp 𝕄) ⊢ bigSep Finset.univ fun c => ready m c := by
  have hready : (bigSep Finset.univ fun c : Dev nD => ready m c)
      = iprop((bigSep Finset.univ fun c : Dev nD => kept m c) ∗ (bigSep Finset.univ fun _ : Dev nD => (levAts L lv : sProp 𝕄))
        ∗ ((bigSep Finset.univ fun c : Dev nD => Pipeline.cellsGhost cfgs EP 0 c) ∗ bigSep Finset.univ fun c : Dev nD => Pipeline.toksInit cfgs EP 0 c)
        ∗ bigSep Finset.univ fun c : Dev nD => G' c) := by
    unfold ready
    rw [bigSep_sep', bigSep_sep', bigSep_sep', bigSep_sep']
  rw [hready]
  iintro ⟨Hk, Hla, Hg, Ht, HG⟩
  isplitl [Hk]; · iexact Hk
  isplitl [Hla]
  · iapply (spread (levAts L lv : sProp 𝕄)); iexact Hla
  isplitr [HG]
  · isplitl [Hg]
    · iapply (pick_one fun p c => Pipeline.cellsGhost cfgs EP p c); iexact Hg
    · iapply (pick_one fun p c => Pipeline.toksInit cfgs EP p c); iexact Ht
  iexact HG

/-- The launch: what every device is dealt, regrouped into what it runs from. -/
theorem launched :
    iprop((bigSep Finset.univ fun d : Dev nD =>
        coreInit (Ix := Unit) (Name := ℕ) (U := UU) (Lvl := ℕ) (Pipeline.owing O₀) 0 (⟨m, fun _ => 0, ρ⟩ : MemSt nD τ sig (Elt F)) (d : Thread nD τ)) ∗ ownU u₀)
      ⊢ (|={Set.univ}=> bigSep Finset.univ fun c => ready m c : sProp 𝕄) := by
  unfold u₀
  iintro ⟨Hcores, Hu⟩
  ihave Hc := (all_dealt m ρ) $$ Hcores
  icases Hc with ⟨Hos, Hk, Hlv⟩
  imod levels_set $$ Hlv with Hla
  ihave H := (ownU_pair _ _) $$ Hu
  icases H with ⟨HP, HX⟩
  imod fund $$ HX with HG
  imod (Pipeline.fund_ghost cfgs EP cellOf_inj) $$ HP with ⟨Hg, Ht⟩
  imod glob $$ [Hos HG] with HG'
  · iapply (with_ghost (F := F)); isplitl [Hos] <;> iassumption
  imodintro
  iapply (all_ready m)
  isplitl [Hk]; · iexact Hk
  isplitl [Hla]; · iexact Hla
  isplitl [Hg]; · iexact Hg
  isplitl [Ht] <;> iassumption

/-- What a device ends with, read at the end. -/
abbrev fin (c : Dev nD) : sProp 𝕄 := iprop((dats m 0 c).arraysAt cfg0.N ∗ scopedSems0 (c : Thread nD τ))

/-- Each device's run: its staging cells founded, the call entered from what the launch left, the return. -/
theorem each_run (c : Dev nD) :
    ready m c ⊢ wp frame (wpE 𝔻 𝕍 (c : Thread nD τ) none) Set.univ (main (F := F) c) fun _ => post (liftTc (fin m) BI.emp) (c : Thread nD τ) := by
  rw [show main (F := F) c = .op (.customCall (Pipeline.entry 0) ()) fun _ => .ret ⟨⟩ from rfl]
  unfold ready kept
  iintro ⟨⟨⟨Hst, Hb⟩, Ha, HO, Hc, Hidle, Hcr⟩, #Hla, ⟨Hg, Ht⟩, HG⟩
  ihave Hw := (waits m c) $$ Hla
  ihave Hcr := (creds c) $$ Hcr
  iapply (fupd_wp frame (wpE 𝔻 𝕍 (c : Thread nD τ) none) Set.univ _ _)
  imod (Pipeline.RDat.cellsInit_alloc cfgs (dats m) EP cellOf_inj (0 : Fin 1) c) $$ [Hc Hg] with ⟨%κ, -, Hinit⟩
  · isplitl [Hc] <;> iassumption
  imodintro
  iapply (call_run m c κ) $$ [HG Hcr Hst Hb Ha HO Hw Hinit Ht Hidle]
  · isplitl [HG Hcr Hst Hb]
    · isplitl [HG Hcr]
      · unfold start
        isplitl [HG]; · unfold G'; iexact HG
        iexact Hcr
      isplitl [Hst] <;> iassumption
    isplitl [Ha]; · iexact Ha
    isplitl [HO]; · iexact HO
    isplitr [Hidle]
    · unfold staged
      isplitl [Hw]; · iexact Hw
      isplitl [Hinit] <;> iassumption
    iexact Hidle
  unfold ended
  iintro ⟨Ha, HO, Hss⟩
  rw [wp_ret]; imodintro
  unfold post; simp only [liftTc_tc]
  isplitr [HO]
  · isplitl [Ha] <;> iassumption
  · unfold owesAny; iexact HO

/-- What a device ends with tells of the final memory and of its counters. -/
theorem fin_read (c : Dev nD) (s' : Phys nD τ sig (Elt F)) : iprop(fin m c ∗ SI s') ⊢ (|={Set.univ}=>
    iprop(⌜(∀ w, (dats m 0 c).ArrAt w cfg0.N (s'.mem.mem ((cfg0.win w).arr.view.loc (c : Thread nD τ))))
      ∧ ∀ sm : SemLoc sig, sm.isScoped .tc = true → s'.mem.sem ((c : Thread nD τ), sm) = 0⌝ ∗ SI s') : sProp 𝕄) := by
  iintro ⟨⟨Ha, Hss⟩, HSI⟩
  ihave %hz := (tcScoped_read_pers c s') $$ [Hss HSI]
  · isplitl [Hss] <;> iassumption
  ihave Hr := (Pipeline.RDat.arraysAt_read (pcfgs (F := F)) adm (dats m) (0 : Fin 1) c arr_whole0 cfg0.N s') $$ [Ha HSI]
  · isplitl [Ha] <;> iassumption
  icases Hr with ⟨%ha, HSI⟩
  imodintro
  isplitr
  · ipureintro; exact ⟨ha, hz⟩
  · iexact HSI

/-- Every final state of the launch: each array as the device's record says, every counter at zero. -/
theorem run_main :
    θ_run defs (onTc (τ := τ) (main (F := F))) ⟨m, fun _ => 0, ρ⟩ (fun r =>
      (∀ c w, (dats m 0 c).ArrAt w cfg0.N (r.2.mem ((cfg0.win w).arr.view.loc (c : Thread nD τ)))) ∧ r.2.sem = fun _ => 0) := by
  refine (θ_run 𝔻 _ _).mono (Q := fun r => (∀ c : Dev nD, (∀ w, (dats m 0 c).ArrAt w cfg0.N (r.2.mem ((cfg0.win w).arr.view.loc (c : Thread nD τ))))
      ∧ ∀ sm : SemLoc sig, sm.isScoped .tc = true → r.2.sem ((c : Thread nD τ), sm) = 0) ∧ ∀ g : GSem nD τ sig, g.1.2 ≠ .tc → r.2.sem g = 0)
    (fun r hr => ⟨fun c => (hr.1 c).1, sem_eq_zero (sems_of_reads (fun c => (hr.1 c).2) hr.2) ?_⟩)
    (adequate_tpu 𝔻 _ _ _ (reflect_intro_fupd_tc_sems (X := Unit) 𝕍 (Pipeline.owing O₀) 0 (noBookings fun _ => le_rfl) (Pipeline.owing_of_ne O₀) u₀
      (fun _ => ready m) (fun _ => fin m) (fun _ => iprop(emp)) Set.univ ?_ (fun _ c => each_run m c) fun _ => ?_))
  · exact fun _ sm hsm => absurd (show sm.isScoped .tc = true from by revert sm; decide +kernel) (by rw [hsm]; decide)
  · iintro H
    imod (launched m ρ) $$ H with H
    imodintro
    iexists ()
    isplitl [H]; · iexact H
    iempintro
  · iintro ⟨H, -, Hsc⟩ %s' HSI
    ihave %hsc := (scSems_read_zero m ρ s') $$ [Hsc HSI]
    · isplitl [Hsc] <;> iassumption
    imod (posts_fupd Finset.univ (fin_read m) s') $$ [H HSI] with %h
    · isplitl [H] <;> iassumption
    imodintro
    ipureintro
    exact ⟨fun c => h c (Finset.mem_univ c), hsc⟩

end Cert.Filed.Proof

end
-- ==== Proof.FiledClaims.lean ====
/- The frames of the kernel as filed: the run of Proof/FiledRun.lean read at the operands and at the counters. -/
module

public import proofs.«01_k».proof.Defs
public import proofs.«01_k».proof.Proof.FiledRun
public import proofs.«01_k».proof.Proof.Gen.Kernel
public import Idealize.ShloMosaic.Lib.Quiescent

@[expose] public section

set_option maxRecDepth 16384

noncomputable section

namespace Cert.Filed.Proof

open Idealize.ShloMosaic Idealize.SL.Sem
open Idealize.ShloMosaic.TcCoe

/-- An operand's window is only read from: its array ends as it was. -/
theorem operand_kept {F : FTy → Type} [FloatOps F] (m : (ℓ : Loc KernelIdeal.nD KernelIdeal.τ KernelIdeal.sig) → Buf (Elt F) ℓ) (c : Dev KernelIdeal.nD)
    (w : Fin KernelIdeal.cfg0.W) (hin : (KernelIdeal.cfg0.win w).isOut = false) {f} (h : (dats m 0 c).ArrAt w KernelIdeal.cfg0.N f) :
    f = m ((KernelIdeal.cfg0.win w).arr.view.loc (c : Thread KernelIdeal.nD KernelIdeal.τ)) := by
  rw [(dats m 0 c).ArrAt_in w hin] at h
  exact h

/-- The run, read at the operands and at the counters. -/
theorem run_frame {F : FTy → Type} [FloatOps F] (m : (ℓ : Loc KernelIdeal.nD KernelIdeal.τ KernelIdeal.sig) → Buf (Elt F) ℓ)
    (ρ : Dev KernelIdeal.nD → PrngReg) :
    θ_run KernelIdeal.defs (onTc (τ := KernelIdeal.τ) (KernelIdeal.main (F := F))) ⟨m, fun _ => 0, ρ⟩ (fun r =>
      (∀ c : Dev KernelIdeal.nD, r.2.mem ((c.tc : Thread KernelIdeal.nD KernelIdeal.τ).loc KernelIdeal.main_arg0) = m (c.tc.loc KernelIdeal.main_arg0)
        ∧ r.2.mem ((c.tc : Thread KernelIdeal.nD KernelIdeal.τ).loc KernelIdeal.main_arg1) = m (c.tc.loc KernelIdeal.main_arg1))
      ∧ r.2.sem = fun _ => 0) :=
  (θ_run KernelIdeal.defs _ _).mono
    (fun _ h => ⟨fun c => ⟨operand_kept m c (0 : Fin 3) rfl (h.1 c (0 : Fin 3)), operand_kept m c (1 : Fin 3) rfl (h.1 c (1 : Fin 3))⟩, h.2⟩)
    (run_main m ρ)

/-- Over the extended reals: the frame of the kernel as filed. -/
theorem frame_kernelIdeal : Cert.quiescent_KernelIdeal := fun m ρ _ => run_frame (F := Ideal) m ρ

/-- The two printed programs have one text: their bodies are one function, and so are their definitions. -/
theorem kernel_body_eq {F : FTy → Type} [FloatOps F] :
    @Kernel.cc0_body F _ Kernel.Gen.facts = @KernelIdeal.cc0_body F _ KernelIdeal.Gen.facts := rfl
theorem kernel_defs_eq {F : FTy → Type} [FloatOps F] : Kernel.defs₀ (F := F) = KernelIdeal.defs₀ (F := F) := by
  unfold Kernel.defs₀ KernelIdeal.defs₀
  congr 1
  funext l x
  match l, x with
  | 0, (t, s) =>
    exact congrFun (congrFun (congrFun (congrFun (congrFun (congrFun (congrFun (congrFun (congrFun (congrFun (congrFun (congrFun
      kernel_body_eq _) _) _) _) _) _) _) _) _) _) _) _

/-- With the words of the chip: the run proved over any float values. -/
theorem frame_kernel : Cert.quiescent_Kernel := by
  intro m ρ _
  have h := run_frame (F := Bits) m ρ
  unfold KernelIdeal.defs at h
  rw [← kernel_defs_eq] at h
  exact h

end Cert.Filed.Proof

end
-- ==== Proof.lean ====
module

public import proofs.«01_k».proof.Defs
public import proofs.«01_k».proof.Proof.Claims
public import proofs.«01_k».proof.Proof.FiledClaims
public import proofs.«01_k».proof.Proof.Gen.Kernel
public import proofs.«01_k».proof.Proof.Gen.KernelIdeal
public import proofs.«01_k».proof.Proof.Gen.KernelIdeal.Launch
public import proofs.«01_k».proof.Proof.Gen.KernelIdeal.Points

@[expose] public section

noncomputable section

namespace Cert.Proof

open Idealize.ShloMosaic Idealize.SL.Sem

/-- Every claim of the statement. No rewrite separates a program from its ideal reading, so `preserves` asks nothing. -/
theorem claim : Cert.Claim :=
  ⟨Cert.Kernel.Gen.facts, Cert.KernelIdeal.Gen.facts, Cert.ReferenceIdeal.Gen.facts, Cert.UnclippedIdeal.Gen.facts,
    Cert.Entered.Gen.facts, Cert.EnteredIdeal.Gen.facts, Cert.On_within_clip.Gen.facts,
    Cert.Filed.Proof.frame_kernel,
    Cert.Filed.Proof.frame_kernelIdeal,
    Cert.Entered.Proof.frame_reference,
    Cert.Entered.Proof.frame_unclipped,
    Cert.Entered.Proof.frame_entered,
    Cert.Entered.Proof.frame_enteredIdeal,
    trivial,
    trivial,
    Cert.Entered.Proof.algebraic_unclipped,
    Cert.Entered.Proof.algebraic_reference⟩

end Cert.Proof

end
